-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_theta_finite [hPre_theta_finite : Cert.Pre_theta_finite.Facts] (m : (ℓ : Loc Cert.KernelIdeal.nD Cert.KernelIdeal.τ Cert.KernelIdeal.sig) → Buf (Elt Ideal) ℓ) : Prop :=
  ∀ c : Dev Cert.KernelIdeal.nD,
    (Cert.Pre_theta_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_theta_finite [hPre_theta_finite : Cert.Pre_theta_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_theta_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_theta_finite [hKernelIdeal : Cert.KernelIdeal.Facts] [hPre_theta_finite : Cert.Pre_theta_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_theta_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_theta_finite [hReferenceIdeal : Cert.ReferenceIdeal.Facts] [hPre_theta_finite : Cert.Pre_theta_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_theta_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "free6" .f32 0x40BE76C9#32 ((744 / 125 : ℝ) : EReal)
  ∧ IdealRules.named_const.Statement Cert.KernelIdeal.κ "min6" .f32 0x3BC49BA6#32 ((3 / 500 : ℝ) : EReal)
  ∧ IdealRules.named_const.Statement Cert.KernelIdeal.κ "min" .f32 0x3A83126F#32 ((1 / 1000 : ℝ) : EReal)

def algebraic_KernelIdeal_ReferenceIdeal_pre_theta_finite [hKernelIdeal : Cert.KernelIdeal.Facts] [hReferenceIdeal : Cert.ReferenceIdeal.Facts] [hPre_theta_finite : Cert.Pre_theta_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_theta_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v163) = v0 c
          ∧ r.2.mem ((c.tc : Thread Cert.ReferenceIdeal.nD Cert.ReferenceIdeal.τ).loc Cert.ReferenceIdeal.main_v160) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_theta_finite : Cert.Pre_theta_finite.Facts),
    quiescent_Kernel (hKernel := hKernel)
    ∧ quiescent_KernelIdeal (hKernelIdeal := hKernelIdeal)
    ∧ quiescent_KernelIdeal_pre_theta_finite (hKernelIdeal := hKernelIdeal) (hPre_theta_finite := hPre_theta_finite)
    ∧ quiescent_ReferenceIdeal (hReferenceIdeal := hReferenceIdeal)
    ∧ quiescent_ReferenceIdeal_pre_theta_finite (hReferenceIdeal := hReferenceIdeal) (hPre_theta_finite := hPre_theta_finite)
    ∧ preserves_Kernel_KernelIdeal
    ∧ algebraic_KernelIdeal_ReferenceIdeal_pre_theta_finite (hKernelIdeal := hKernelIdeal) (hReferenceIdeal := hReferenceIdeal) (hPre_theta_finite := hPre_theta_finite)
-- ==== Pre_theta_finite.lean ====
abbrev S2097152x25 : Shape := ⟨2, ![2097152, 25]⟩
abbrev S2097152 : Shape := ⟨1, ![2097152]⟩
abbrev S_ : Shape := ⟨0, ![]⟩

class Facts : Prop where
  bcast_S_S2097152x25 : S_.BroadcastsInDim S2097152x25 (![] : Fin 0 → Fin S2097152x25.rank)
  reducesTo_S2097152x25_S_d0_1 : S2097152x25.ReducesTo [0, 1] S_
  h_S_ : 0 < S_.numel

variable [Facts]

def fn {F : FTy → Type} [FloatOps F] (main_arg0 : FVec F S2097152x25 .f32) (main_arg1 : FVec F S2097152 .f32) : IVec S_ 1 :=
  let main_v0 : FVec F S2097152x25 .f32 := Host.absf main_arg0
  let main_cst : FVec F S_ .f32 := constant S_ .f32 0x7F800000#32
  let main_v1 : FVec F S2097152x25 .f32 := broadcastInDim S2097152x25 ![] bcast_S_S2097152x25 main_cst
  let main_v2 : IVec S2097152x25 1 := cmpf .olt main_v0 main_v1
  let main_c : IVec S_ 1 := constantI S_ 1 1#1
  let main_v3 : IVec S_ 1 := (fun x v => Host.reduce IntOp.andi x v reducesTo_S2097152x25_S_d0_1 h_S_) main_v2 main_c
  main_v3
-- ==== Kernel.lean ====
abbrev S2097152x25 : Shape := ⟨2, ![2097152, 25]⟩
abbrev S2097152 : Shape := ⟨1, ![2097152]⟩
abbrev S32768x25 : Shape := ⟨2, ![32768, 25]⟩
abbrev S32768 : Shape := ⟨1, ![32768]⟩
abbrev S1024x25 : Shape := ⟨2, ![1024, 25]⟩
abbrev S25x1024 : Shape := ⟨2, ![25, 1024]⟩
abbrev S8x1024 : Shape := ⟨2, ![8, 1024]⟩
abbrev S7x1024 : Shape := ⟨2, ![7, 1024]⟩
abbrev S1024 : Shape := ⟨1, ![1024]⟩
abbrev S1x1024 : Shape := ⟨2, ![1, 1024]⟩
abbrev S7x8 : Shape := ⟨2, ![7, 8]⟩
abbrev S6x1024 : Shape := ⟨2, ![6, 1024]⟩
abbrev S2097152x1 : Shape := ⟨2, ![2097152, 1]⟩

abbrev nBuf : Space → Nat
  | .hbm => 5
  | .vmem => 8
  | .smem => 0
  | _ => 0

abbrev bufTy : (tb : Table) → Fin (tcTables nBuf tb) → BufTy
  | .hbm, ⟨0, _⟩ => ⟨S2097152x25, .f32⟩
  | .hbm, ⟨1, _⟩ => ⟨S2097152, .f32⟩
  | .hbm, ⟨2, _⟩ => ⟨S2097152, .f32⟩
  | .hbm, ⟨3, _⟩ => ⟨S2097152, .f32⟩
  | .hbm, ⟨4, _⟩ => ⟨S2097152x1, .f32⟩
  | .local _ .vmem, ⟨0, _⟩ => ⟨S32768x25, .f32⟩
  | .local _ .vmem, ⟨1, _⟩ => ⟨S32768x25, .f32⟩
  | .local _ .vmem, ⟨2, _⟩ => ⟨S32768, .f32⟩
  | .local _ .vmem, ⟨3, _⟩ => ⟨S32768, .f32⟩
  | .local _ .vmem, ⟨4, _⟩ => ⟨S32768, .f32⟩
  | .local _ .vmem, ⟨5, _⟩ => ⟨S32768, .f32⟩
  | .local _ .vmem, ⟨6, _⟩ => ⟨S32768, .f32⟩
  | .local _ .vmem, ⟨7, _⟩ => ⟨S32768, .f32⟩
  | _, _ => ⟨S2097152x25, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32 : BitVec 32 := 0#32
  let c32_i32 : BitVec 32 := 32#32
  let v0 : BitVec 32 := Scalar.addi c0_i32 c32_i32
  let c1_i32 : BitVec 32 := 1#32
  ⟨c0_i32, v0, c1_i32⟩
def k0_off1 (k0_t1 : Fin k0_t1_loop.trips) : Fin 2 → Nat :=
  let c0_i32 : BitVec 32 := 0#32
  let c1_i32 : BitVec 32 := 1#32
  let arg5 : BitVec 32 := Scf.iv c0_i32 c1_i32 k0_t1
  let c1024_i32 : BitVec 32 := 1024#32
  let v1 : BitVec 32 := Scalar.muli arg5 c1024_i32
  let v2 : Index := Scalar.indexCast v1
  let c0 : Index := 0#32
  ![v2.toNat, 0]
def k0_off2 (k0_t1 : Fin k0_t1_loop.trips) : Fin 1 → Nat :=
  let c0_i32 : BitVec 32 := 0#32
  let c1_i32 : BitVec 32 := 1#32
  let arg5 : BitVec 32 := Scf.iv c0_i32 c1_i32 k0_t1
  let c1024_i32_1 : BitVec 32 := 1024#32
  let v8 : BitVec 32 := Scalar.muli arg5 c1024_i32_1
  let v9 : Index := Scalar.indexCast v8
  ![v9.toNat]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 1 → Nat :=
  let arg0 : BitVec 32 := BitVec.ofNat 32 (i 0).val
  let c0_i32 : BitVec 32 := 0#32
  ![arg0.toNat]

def cc0_transform_2 (i : grid0.Coords) : Fin 1 → Nat :=
  let arg0 : BitVec 32 := BitVec.ofNat 32 (i 0).val
  let c0_i32 : BitVec 32 := 0#32
  ![arg0.toNat]

def cc0_transform_3 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S32768x25 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S32768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S32768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F] [Named F]
def κ : String → Option EReal := fun
  | "free6" => some ((744 / 125 : ℝ) : EReal)
  | "min" => some ((1 / 1000 : ℝ) : EReal)
  | "min6" => some ((3 / 500 : ℝ) : EReal)
  | _ => none
-- ==== ReferenceIdeal.lean ====
abbrev S2097152x25 : Shape := ⟨2, ![2097152, 25]⟩
abbrev S2097152 : Shape := ⟨1, ![2097152]⟩
abbrev S_ : Shape := ⟨0, ![]⟩
abbrev S2097152x8 : Shape := ⟨2, ![2097152, 8]⟩
abbrev S2097152x9 : Shape := ⟨2, ![2097152, 9]⟩
abbrev S2097152x1 : Shape := ⟨2, ![2097152, 1]⟩
abbrev S1 : Shape := ⟨1, ![1]⟩
abbrev S2097152x1x1 : Shape := ⟨3, ![2097152, 1, 1]⟩
abbrev S1x1x1 : Shape := ⟨3, ![1, 1, 1]⟩

abbrev nBuf : Space → Nat
  | .hbm => 392
  | .vmem => 0
  | .smem => 0
  | _ => 0

abbrev hbmTy0_0 (i : Nat) : BufTy := match i % 128 with
  | 0 => ⟨S2097152x25, .f32⟩
  | 1 => ⟨S2097152, .f32⟩
  | 2 => ⟨S_, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S2097152x8, .f32⟩
  | 12 => ⟨S2097152x8, .f32⟩
  | 13 => ⟨S2097152x9, .f32⟩
  | 14 => ⟨S_, .f32⟩
  | 15 => ⟨S2097152, .f32⟩
  | 16 => ⟨S2097152, .i1⟩
  | 17 => ⟨S_, .f32⟩
  | 18 => ⟨S2097152, .f32⟩
  | 19 => ⟨S2097152, .i1⟩
  | 20 => ⟨S2097152, .i1⟩
  | 21 => ⟨S_, .f32⟩
  | 22 => ⟨S_, .f32⟩
  | 23 => ⟨S_, .f32⟩
  | 24 => ⟨S2097152, .f32⟩
  | 25 => ⟨S2097152, .f32⟩
  | 26 => ⟨S_, .f32⟩
  | 27 => ⟨S2097152, .f32⟩
  | 28 => ⟨S2097152, .f32⟩
  | 29 => ⟨S_, .f32⟩
  | 30 => ⟨S_, .f32⟩
  | 31 => ⟨S_, .f32⟩
  | 32 => ⟨S_, .f32⟩
  | 33 => ⟨S_, .f32⟩
  | 34 => ⟨S2097152, .f32⟩
  | 35 => ⟨S_, .f32⟩
  | 36 => ⟨S2097152, .f32⟩
  | 37 => ⟨S2097152, .f32⟩
  | 38 => ⟨S2097152x1, .f32⟩
  | 39 => ⟨S2097152x8, .f32⟩
  | 40 => ⟨S2097152x8, .f32⟩
  | 41 => ⟨S2097152x8, .f32⟩
  | 42 => ⟨S_, .f32⟩
  | 43 => ⟨S2097152, .f32⟩
  | 44 => ⟨S2097152x1, .f32⟩
  | 45 => ⟨S2097152x8, .f32⟩
  | 46 => ⟨S2097152x8, .f32⟩
  | 47 => ⟨S2097152x8, .f32⟩
  | 48 => ⟨S2097152x8, .f32⟩
  | 49 => ⟨S2097152x8, .f32⟩
  | 50 => ⟨S2097152x8, .f32⟩
  | 51 => ⟨S_, .f32⟩
  | 52 => ⟨S2097152x1, .f32⟩
  | 53 => ⟨S_, .f32⟩
  | 54 => ⟨S_, .f32⟩
  | 55 => ⟨S2097152x8, .f32⟩
  | 56 => ⟨S2097152x9, .f32⟩
  | 57 => ⟨S_, .f32⟩
  | 58 => ⟨S2097152x9, .f32⟩
  | 59 => ⟨S2097152x9, .f32⟩
  | 60 => ⟨S_, .f32⟩
  | 61 => ⟨S2097152x9, .f32⟩
  | 62 => ⟨S2097152x9, .f32⟩
  | 63 => ⟨S_, .i32⟩
  | 64 => ⟨S1, .i32⟩
  | 65 => ⟨S_, .f32⟩
  | 66 => ⟨S2097152, .f32⟩
  | 67 => ⟨S2097152x9, .f32⟩
  | 68 => ⟨S_, .i32⟩
  | 69 => ⟨S1, .i32⟩
  | 70 => ⟨S_, .f32⟩
  | 71 => ⟨S2097152, .f32⟩
  | 72 => ⟨S2097152x9, .f32⟩
  | 73 => ⟨S2097152x8, .f32⟩
  | 74 => ⟨S2097152x8, .f32⟩
  | 75 => ⟨S2097152x8, .f32⟩
  | 76 => ⟨S_, .f32⟩
  | 77 => ⟨S_, .f32⟩
  | 78 => ⟨S_, .f32⟩
  | 79 => ⟨S_, .f32⟩
  | 80 => ⟨S_, .f32⟩
  | 81 => ⟨S_, .f32⟩
  | 82 => ⟨S_, .i32⟩
  | 83 => ⟨S1, .i32⟩
  | 84 => ⟨S2097152, .f32⟩
  | 85 => ⟨S2097152x9, .f32⟩
  | 86 => ⟨S_, .i32⟩
  | 87 => ⟨S1, .i32⟩
  | 88 => ⟨S2097152, .f32⟩
  | 89 => ⟨S2097152x9, .f32⟩
  | 90 => ⟨S_, .f32⟩
  | 91 => ⟨S2097152x9, .f32⟩
  | 92 => ⟨S2097152x9, .f32⟩
  | 93 => ⟨S2097152x9, .f32⟩
  | 94 => ⟨S2097152x9, .f32⟩
  | 95 => ⟨S2097152x9, .i1⟩
  | 96 => ⟨S2097152x9, .f32⟩
  | 97 => ⟨S2097152x9, .f32⟩
  | 98 => ⟨S2097152x9, .f32⟩
  | 99 => ⟨S2097152x9, .f32⟩
  | 100 => ⟨S2097152x9, .f32⟩
  | 101 => ⟨S2097152x9, .f32⟩
  | 102 => ⟨S2097152x9, .f32⟩
  | 103 => ⟨S2097152x9, .f32⟩
  | 104 => ⟨S2097152x9, .f32⟩
  | 105 => ⟨S2097152x9, .f32⟩
  | 106 => ⟨S_, .f32⟩
  | 107 => ⟨S_, .f32⟩
  | 108 => ⟨S_, .f32⟩
  | 109 => ⟨S_, .f32⟩
  | 110 => ⟨S_, .f32⟩
  | 111 => ⟨S2097152, .f32⟩
  | 112 => ⟨S_, .f32⟩
  | 113 => ⟨S2097152, .f32⟩
  | 114 => ⟨S2097152, .f32⟩
  | 115 => ⟨S2097152x1, .f32⟩
  | 116 => ⟨S2097152x8, .f32⟩
  | 117 => ⟨S2097152x8, .f32⟩
  | 118 => ⟨S2097152x8, .f32⟩
  | 119 => ⟨S_, .f32⟩
  | 120 => ⟨S2097152, .f32⟩
  | 121 => ⟨S2097152x1, .f32⟩
  | 122 => ⟨S2097152x8, .f32⟩
  | 123 => ⟨S2097152x8, .f32⟩
  | 124 => ⟨S2097152x8, .f32⟩
  | 125 => ⟨S2097152x8, .f32⟩
  | 126 => ⟨S2097152x8, .f32⟩
  | 127 => ⟨S2097152x8, .f32⟩
  | _ => ⟨S2097152x25, .f32⟩

abbrev hbmTy0_1 (i : Nat) : BufTy := match i % 128 with
  | 0 => ⟨S_, .f32⟩
  | 1 => ⟨S2097152x1, .f32⟩
  | 2 => ⟨S_, .f32⟩
  | 3 => ⟨S_, .f32⟩
  | 4 => ⟨S2097152x8, .f32⟩
  | 5 => ⟨S2097152x9, .f32⟩
  | 6 => ⟨S_, .f32⟩
  | 7 => ⟨S2097152x9, .f32⟩
  | 8 => ⟨S2097152x9, .f32⟩
  | 9 => ⟨S_, .f32⟩
  | 10 => ⟨S2097152x9, .f32⟩
  | 11 => ⟨S2097152x9, .f32⟩
  | 12 => ⟨S_, .i32⟩
  | 13 => ⟨S1, .i32⟩
  | 14 => ⟨S_, .f32⟩
  | 15 => ⟨S2097152, .f32⟩
  | 16 => ⟨S2097152x9, .f32⟩
  | 17 => ⟨S_, .i32⟩
  | 18 => ⟨S1, .i32⟩
  | 19 => ⟨S_, .f32⟩
  | 20 => ⟨S2097152, .f32⟩
  | 21 => ⟨S2097152x9, .f32⟩
  | 22 => ⟨S2097152x8, .f32⟩
  | 23 => ⟨S2097152x8, .f32⟩
  | 24 => ⟨S2097152x8, .f32⟩
  | 25 => ⟨S2097152x1, .f32⟩
  | 26 => ⟨S2097152x9, .f32⟩
  | 27 => ⟨S2097152x9, .i1⟩
  | 28 => ⟨S2097152x9, .i32⟩
  | 29 => ⟨S_, .i32⟩
  | 30 => ⟨S2097152, .i32⟩
  | 31 => ⟨S_, .i32⟩
  | 32 => ⟨S2097152, .i32⟩
  | 33 => ⟨S2097152, .i32⟩
  | 34 => ⟨S_, .i32⟩
  | 35 => ⟨S_, .i32⟩
  | 36 => ⟨S_, .i32⟩
  | 37 => ⟨S2097152, .i32⟩
  | 38 => ⟨S2097152, .i32⟩
  | 39 => ⟨S_, .i32⟩
  | 40 => ⟨S2097152, .i32⟩
  | 41 => ⟨S2097152, .i32⟩
  | 42 => ⟨S2097152x1, .i32⟩
  | 43 => ⟨S_, .i32⟩
  | 44 => ⟨S2097152x1, .i32⟩
  | 45 => ⟨S2097152x1, .i1⟩
  | 46 => ⟨S_, .i32⟩
  | 47 => ⟨S2097152x1, .i32⟩
  | 48 => ⟨S2097152x1, .i32⟩
  | 49 => ⟨S2097152x1, .i32⟩
  | 50 => ⟨S2097152x1x1, .i32⟩
  | 51 => ⟨S1, .i32⟩
  | 52 => ⟨S_, .i32⟩
  | 53 => ⟨S2097152x1x1, .i32⟩
  | 54 => ⟨S2097152x1x1, .i1⟩
  | 55 => ⟨S1x1x1, .i32⟩
  | 56 => ⟨S2097152x1x1, .i32⟩
  | 57 => ⟨S2097152x1x1, .i1⟩
  | 58 => ⟨S2097152x1x1, .i1⟩
  | 59 => ⟨S_, .i1⟩
  | 60 => ⟨S2097152x1, .i1⟩
  | 61 => ⟨S2097152x1, .f32⟩
  | 62 => ⟨S_, .f32⟩
  | 63 => ⟨S2097152x1, .f32⟩
  | 64 => ⟨S2097152x1, .f32⟩
  | 65 => ⟨S2097152, .f32⟩
  | 66 => ⟨S2097152x1, .i32⟩
  | 67 => ⟨S_, .i32⟩
  | 68 => ⟨S2097152x1, .i32⟩
  | 69 => ⟨S2097152x1, .i1⟩
  | 70 => ⟨S_, .i32⟩
  | 71 => ⟨S2097152x1, .i32⟩
  | 72 => ⟨S2097152x1, .i32⟩
  | 73 => ⟨S2097152x1, .i32⟩
  | 74 => ⟨S2097152x1x1, .i32⟩
  | 75 => ⟨S1, .i32⟩
  | 76 => ⟨S_, .i32⟩
  | 77 => ⟨S2097152x1x1, .i32⟩
  | 78 => ⟨S2097152x1x1, .i1⟩
  | 79 => ⟨S1x1x1, .i32⟩
  | 80 => ⟨S2097152x1x1, .i32⟩
  | 81 => ⟨S2097152x1x1, .i1⟩
  | 82 => ⟨S2097152x1x1, .i1⟩
  | 83 => ⟨S_, .i1⟩
  | 84 => ⟨S2097152x1, .i1⟩
  | 85 => ⟨S2097152x1, .f32⟩
  | 86 => ⟨S_, .f32⟩
  | 87 => ⟨S2097152x1, .f32⟩
  | 88 => ⟨S2097152x1, .f32⟩
  | 89 => ⟨S2097152, .f32⟩
  | 90 => ⟨S2097152x1, .i32⟩
  | 91 => ⟨S_, .i32⟩
  | 92 => ⟨S2097152x1, .i32⟩
  | 93 => ⟨S2097152x1, .i1⟩
  | 94 => ⟨S_, .i32⟩
  | 95 => ⟨S2097152x1, .i32⟩
  | 96 => ⟨S2097152x1, .i32⟩
  | 97 => ⟨S2097152x1, .i32⟩
  | 98 => ⟨S2097152x1x1, .i32⟩
  | 99 => ⟨S1, .i32⟩
  | 100 => ⟨S_, .i32⟩
  | 101 => ⟨S2097152x1x1, .i32⟩
  | 102 => ⟨S2097152x1x1, .i1⟩
  | 103 => ⟨S1x1x1, .i32⟩
  | 104 => ⟨S2097152x1x1, .i32⟩
  | 105 => ⟨S2097152x1x1, .i1⟩
  | 106 => ⟨S2097152x1x1, .i1⟩
  | 107 => ⟨S_, .i1⟩
  | 108 => ⟨S2097152x1, .i1⟩
  | 109 => ⟨S2097152x1, .f32⟩
  | 110 => ⟨S_, .f32⟩
  | 111 => ⟨S2097152x1, .f32⟩
  | 112 => ⟨S2097152x1, .f32⟩
  | 113 => ⟨S2097152, .f32⟩
  | 114 => ⟨S2097152x8, .f32⟩
  | 115 => ⟨S2097152x1, .i32⟩
  | 116 => ⟨S_, .i32⟩
  | 117 => ⟨S2097152x1, .i32⟩
  | 118 => ⟨S2097152x1, .i1⟩
  | 119 => ⟨S_, .i32⟩
  | 120 => ⟨S2097152x1, .i32⟩
  | 121 => ⟨S2097152x1, .i32⟩
  | 122 => ⟨S2097152x1, .i32⟩
  | 123 => ⟨S2097152x1x1, .i32⟩
  | 124 => ⟨S1, .i32⟩
  | 125 => ⟨S_, .i32⟩
  | 126 => ⟨S2097152x1x1, .i32⟩
  | 127 => ⟨S2097152x1x1, .i1⟩
  | _ => ⟨S2097152x25, .f32⟩

abbrev hbmTy0_2 (i : Nat) : BufTy := match i % 128 with
  | 0 => ⟨S1x1x1, .i32⟩
  | 1 => ⟨S2097152x1x1, .i32⟩
  | 2 => ⟨S2097152x1x1, .i1⟩
  | 3 => ⟨S2097152x1x1, .i1⟩
  | 4 => ⟨S_, .i1⟩
  | 5 => ⟨S2097152x1, .i1⟩
  | 6 => ⟨S2097152x1, .f32⟩
  | 7 => ⟨S_, .f32⟩
  | 8 => ⟨S2097152x1, .f32⟩
  | 9 => ⟨S2097152x1, .f32⟩
  | 10 => ⟨S2097152, .f32⟩
  | 11 => ⟨S2097152x1, .i32⟩
  | 12 => ⟨S_, .i32⟩
  | 13 => ⟨S2097152x1, .i32⟩
  | 14 => ⟨S2097152x1, .i1⟩
  | 15 => ⟨S_, .i32⟩
  | 16 => ⟨S2097152x1, .i32⟩
  | 17 => ⟨S2097152x1, .i32⟩
  | 18 => ⟨S2097152x1, .i32⟩
  | 19 => ⟨S2097152x1x1, .i32⟩
  | 20 => ⟨S1, .i32⟩
  | 21 => ⟨S_, .i32⟩
  | 22 => ⟨S2097152x1x1, .i32⟩
  | 23 => ⟨S2097152x1x1, .i1⟩
  | 24 => ⟨S1x1x1, .i32⟩
  | 25 => ⟨S2097152x1x1, .i32⟩
  | 26 => ⟨S2097152x1x1, .i1⟩
  | 27 => ⟨S2097152x1x1, .i1⟩
  | 28 => ⟨S_, .i1⟩
  | 29 => ⟨S2097152x1, .i1⟩
  | 30 => ⟨S2097152x1, .f32⟩
  | 31 => ⟨S_, .f32⟩
  | 32 => ⟨S2097152x1, .f32⟩
  | 33 => ⟨S2097152x1, .f32⟩
  | 34 => ⟨S2097152, .f32⟩
  | 35 => ⟨S_, .i32⟩
  | 36 => ⟨S2097152, .i32⟩
  | 37 => ⟨S2097152, .i32⟩
  | 38 => ⟨S2097152x1, .i32⟩
  | 39 => ⟨S_, .i32⟩
  | 40 => ⟨S2097152x1, .i32⟩
  | 41 => ⟨S2097152x1, .i1⟩
  | 42 => ⟨S_, .i32⟩
  | 43 => ⟨S2097152x1, .i32⟩
  | 44 => ⟨S2097152x1, .i32⟩
  | 45 => ⟨S2097152x1, .i32⟩
  | 46 => ⟨S2097152x1x1, .i32⟩
  | 47 => ⟨S1, .i32⟩
  | 48 => ⟨S_, .i32⟩
  | 49 => ⟨S2097152x1x1, .i32⟩
  | 50 => ⟨S2097152x1x1, .i1⟩
  | 51 => ⟨S1x1x1, .i32⟩
  | 52 => ⟨S2097152x1x1, .i32⟩
  | 53 => ⟨S2097152x1x1, .i1⟩
  | 54 => ⟨S2097152x1x1, .i1⟩
  | 55 => ⟨S_, .i1⟩
  | 56 => ⟨S2097152x1, .i1⟩
  | 57 => ⟨S2097152x1, .f32⟩
  | 58 => ⟨S_, .f32⟩
  | 59 => ⟨S2097152x1, .f32⟩
  | 60 => ⟨S2097152x1, .f32⟩
  | 61 => ⟨S2097152, .f32⟩
  | 62 => ⟨S2097152x1, .i32⟩
  | 63 => ⟨S_, .i32⟩
  | 64 => ⟨S2097152x1, .i32⟩
  | 65 => ⟨S2097152x1, .i1⟩
  | 66 => ⟨S_, .i32⟩
  | 67 => ⟨S2097152x1, .i32⟩
  | 68 => ⟨S2097152x1, .i32⟩
  | 69 => ⟨S2097152x1, .i32⟩
  | 70 => ⟨S2097152x1x1, .i32⟩
  | 71 => ⟨S1, .i32⟩
  | 72 => ⟨S_, .i32⟩
  | 73 => ⟨S2097152x1x1, .i32⟩
  | 74 => ⟨S2097152x1x1, .i1⟩
  | 75 => ⟨S1x1x1, .i32⟩
  | 76 => ⟨S2097152x1x1, .i32⟩
  | 77 => ⟨S2097152x1x1, .i1⟩
  | 78 => ⟨S2097152x1x1, .i1⟩
  | 79 => ⟨S_, .i1⟩
  | 80 => ⟨S2097152x1, .i1⟩
  | 81 => ⟨S2097152x1, .f32⟩
  | 82 => ⟨S_, .f32⟩
  | 83 => ⟨S2097152x1, .f32⟩
  | 84 => ⟨S2097152x1, .f32⟩
  | 85 => ⟨S2097152, .f32⟩
  | 86 => ⟨S2097152, .f32⟩
  | 87 => ⟨S2097152, .f32⟩
  | 88 => ⟨S_, .f32⟩
  | 89 => ⟨S2097152, .f32⟩
  | 90 => ⟨S2097152, .f32⟩
  | 91 => ⟨S2097152, .f32⟩
  | 92 => ⟨S2097152, .f32⟩
  | 93 => ⟨S2097152, .f32⟩
  | 94 => ⟨S2097152, .f32⟩
  | 95 => ⟨S2097152, .f32⟩
  | 96 => ⟨S2097152, .f32⟩
  | 97 => ⟨S2097152, .f32⟩
  | 98 => ⟨S_, .f32⟩
  | 99 => ⟨S2097152, .f32⟩
  | 100 => ⟨S2097152, .f32⟩
  | 101 => ⟨S2097152, .f32⟩
  | 102 => ⟨S2097152, .f32⟩
  | 103 => ⟨S2097152, .f32⟩
  | 104 => ⟨S2097152, .f32⟩
  | 105 => ⟨S2097152, .f32⟩
  | 106 => ⟨S2097152, .f32⟩
  | 107 => ⟨S2097152, .f32⟩
  | 108 => ⟨S2097152, .f32⟩
  | 109 => ⟨S_, .f32⟩
  | 110 => ⟨S2097152, .f32⟩
  | 111 => ⟨S2097152, .f32⟩
  | 112 => ⟨S2097152, .f32⟩
  | 113 => ⟨S2097152, .f32⟩
  | 114 => ⟨S_, .f32⟩
  | 115 => ⟨S2097152, .f32⟩
  | 116 => ⟨S2097152, .f32⟩
  | 117 => ⟨S2097152, .f32⟩
  | 118 => ⟨S2097152, .f32⟩
  | 119 => ⟨S2097152, .f32⟩
  | 120 => ⟨S2097152, .f32⟩
  | 121 => ⟨S2097152, .f32⟩
  | 122 => ⟨S2097152, .f32⟩
  | 123 => ⟨S_, .f32⟩
  | 124 => ⟨S2097152, .f32⟩
  | 125 => ⟨S2097152, .f32⟩
  | 126 => ⟨S2097152, .f32⟩
  | 127 => ⟨S2097152, .f32⟩
  | _ => ⟨S2097152x25, .f32⟩

abbrev hbmTy0_3 (i : Nat) : BufTy := match i % 128 with
  | 0 => ⟨S_, .f32⟩
  | 1 => ⟨S_, .f32⟩
  | 2 => ⟨S2097152, .f32⟩
  | 3 => ⟨S2097152, .f32⟩
  | 4 => ⟨S2097152, .i32⟩
  | 5 => ⟨S_, .i32⟩
  | 6 => ⟨S_, .i32⟩
  | 7 => ⟨S2097152x1, .f32⟩
  | _ => ⟨S2097152x25, .f32⟩

abbrev hbmTy (i : Nat) : BufTy := match i / 128 with
  | 0 => hbmTy0_0 i
  | 1 => hbmTy0_1 i
  | 2 => hbmTy0_2 i
  | 3 => hbmTy0_3 i
  | _ => ⟨S2097152x25, .f32⟩

abbrev bufTy : (tb : Table) → Fin (tcTables nBuf tb) → BufTy
  | .hbm, ⟨i, _⟩ => hbmTy i
  | _, _ => ⟨S2097152x25, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_cst_1 : Ref sig .tc := ⟨.hbm, 5, rfl⟩
abbrev main_cst_2 : Ref sig .tc := ⟨.hbm, 6, rfl⟩
abbrev main_v1 : Ref sig .tc := ⟨.hbm, 7, rfl⟩
abbrev main_cst_3 : Ref sig .tc := ⟨.hbm, 8, rfl⟩
abbrev main_cst_4 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst_5 : Ref sig .tc := ⟨.hbm, 14, rfl⟩
abbrev main_v6 : Ref sig .tc := ⟨.hbm, 15, rfl⟩
abbrev main_v7 : Ref sig .tc := ⟨.hbm, 16, rfl⟩
abbrev main_cst_6 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_7 : Ref sig .tc := ⟨.hbm, 21, rfl⟩
abbrev main_cst_8 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_v11 : Ref sig .tc := ⟨.hbm, 28, rfl⟩
abbrev main_cst_9 : Ref sig .tc := ⟨.hbm, 29, rfl⟩
abbrev main_v12 : Ref sig .tc := ⟨.hbm, 30, rfl⟩
abbrev main_cst_10 : Ref sig .tc := ⟨.hbm, 31, rfl⟩
abbrev main_v13 : Ref sig .tc := ⟨.hbm, 32, rfl⟩
abbrev main_cst_11 : Ref sig .tc := ⟨.hbm, 33, rfl⟩
abbrev main_v14 : Ref sig .tc := ⟨.hbm, 34, rfl⟩
abbrev main_cst_12 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_cst_13 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_cst_14 : Ref sig .tc := ⟨.hbm, 51, rfl⟩
abbrev main_v29 : Ref sig .tc := ⟨.hbm, 52, rfl⟩
abbrev main_call1_call0_cst : Ref sig .tc := ⟨.hbm, 53, rfl⟩
abbrev main_call1_call0_v0 : Ref sig .tc := ⟨.hbm, 54, rfl⟩
abbrev main_v30 : Ref sig .tc := ⟨.hbm, 55, rfl⟩
abbrev main_v31 : Ref sig .tc := ⟨.hbm, 56, rfl⟩
abbrev main_cst_15 : Ref sig .tc := ⟨.hbm, 57, rfl⟩
abbrev main_v32 : Ref sig .tc := ⟨.hbm, 58, rfl⟩
abbrev main_v33 : Ref sig .tc := ⟨.hbm, 59, rfl⟩
abbrev main_cst_16 : Ref sig .tc := ⟨.hbm, 60, rfl⟩
abbrev main_v34 : Ref sig .tc := ⟨.hbm, 61, rfl⟩
abbrev main_v35 : Ref sig .tc := ⟨.hbm, 62, rfl⟩
abbrev main_c : Ref sig .tc := ⟨.hbm, 63, rfl⟩
abbrev main_v36 : Ref sig .tc := ⟨.hbm, 64, rfl⟩
abbrev main_cst_17 : Ref sig .tc := ⟨.hbm, 65, rfl⟩
abbrev main_v37 : Ref sig .tc := ⟨.hbm, 66, rfl⟩
abbrev main_v38 : Ref sig .tc := ⟨.hbm, 67, rfl⟩
abbrev main_c_18 : Ref sig .tc := ⟨.hbm, 68, rfl⟩
abbrev main_v39 : Ref sig .tc := ⟨.hbm, 69, rfl⟩
abbrev main_cst_19 : Ref sig .tc := ⟨.hbm, 70, rfl⟩
abbrev main_v40 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_cst_20 : Ref sig .tc := ⟨.hbm, 76, rfl⟩
abbrev main_v45 : Ref sig .tc := ⟨.hbm, 77, rfl⟩
abbrev main_v46 : Ref sig .tc := ⟨.hbm, 78, rfl⟩
abbrev main_cst_21 : Ref sig .tc := ⟨.hbm, 79, rfl⟩
abbrev main_v47 : Ref sig .tc := ⟨.hbm, 80, rfl⟩
abbrev main_v48 : Ref sig .tc := ⟨.hbm, 81, rfl⟩
abbrev main_c_22 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_c_23 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_call2_cst : Ref sig .tc := ⟨.hbm, 90, rfl⟩
abbrev main_call2_v0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_v7 : Ref sig .tc := ⟨.hbm, 98, rfl⟩
abbrev main_call2_v8 : Ref sig .tc := ⟨.hbm, 99, rfl⟩
abbrev main_call2_v9 : Ref sig .tc := ⟨.hbm, 100, rfl⟩
abbrev main_call2_v10 : Ref sig .tc := ⟨.hbm, 101, rfl⟩
abbrev main_call2_v11 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_cst_24 : Ref sig .tc := ⟨.hbm, 106, rfl⟩
abbrev main_v58 : Ref sig .tc := ⟨.hbm, 107, rfl⟩
abbrev main_cst_25 : Ref sig .tc := ⟨.hbm, 108, rfl⟩
abbrev main_v59 : Ref sig .tc := ⟨.hbm, 109, rfl⟩
abbrev main_cst_26 : Ref sig .tc := ⟨.hbm, 110, rfl⟩
abbrev main_v60 : Ref sig .tc := ⟨.hbm, 111, rfl⟩
abbrev main_cst_27 : Ref sig .tc := ⟨.hbm, 112, rfl⟩
abbrev main_v61 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_v65 : Ref sig .tc := ⟨.hbm, 117, rfl⟩
abbrev main_v66 : Ref sig .tc := ⟨.hbm, 118, rfl⟩
abbrev main_cst_28 : Ref sig .tc := ⟨.hbm, 119, rfl⟩
abbrev main_v67 : Ref sig .tc := ⟨.hbm, 120, rfl⟩
abbrev main_v68 : Ref sig .tc := ⟨.hbm, 121, rfl⟩
abbrev main_v69 : Ref sig .tc := ⟨.hbm, 122, rfl⟩
abbrev main_v70 : Ref sig .tc := ⟨.hbm, 123, rfl⟩
abbrev main_v71 : Ref sig .tc := ⟨.hbm, 124, rfl⟩
abbrev main_v72 : Ref sig .tc := ⟨.hbm, 125, rfl⟩
abbrev main_v73 : Ref sig .tc := ⟨.hbm, 126, rfl⟩
abbrev main_v74 : Ref sig .tc := ⟨.hbm, 127, rfl⟩
abbrev main_cst_29 : Ref sig .tc := ⟨.hbm, 128, rfl⟩
abbrev main_v75 : Ref sig .tc := ⟨.hbm, 129, rfl⟩
abbrev main_call3_call0_cst : Ref sig .tc := ⟨.hbm, 130, rfl⟩
abbrev main_call3_call0_v0 : Ref sig .tc := ⟨.hbm, 131, rfl⟩
abbrev main_v76 : Ref sig .tc := ⟨.hbm, 132, rfl⟩
abbrev main_v77 : Ref sig .tc := ⟨.hbm, 133, rfl⟩
abbrev main_cst_30 : Ref sig .tc := ⟨.hbm, 134, rfl⟩
abbrev main_v78 : Ref sig .tc := ⟨.hbm, 135, rfl⟩
abbrev main_v79 : Ref sig .tc := ⟨.hbm, 136, rfl⟩
abbrev main_cst_31 : Ref sig .tc := ⟨.hbm, 137, rfl⟩
abbrev main_v80 : Ref sig .tc := ⟨.hbm, 138, rfl⟩
abbrev main_v81 : Ref sig .tc := ⟨.hbm, 139, rfl⟩
abbrev main_c_32 : Ref sig .tc := ⟨.hbm, 140, rfl⟩
abbrev main_v82 : Ref sig .tc := ⟨.hbm, 141, rfl⟩
abbrev main_cst_33 : Ref sig .tc := ⟨.hbm, 142, rfl⟩
abbrev main_v83 : Ref sig .tc := ⟨.hbm, 143, rfl⟩
abbrev main_v84 : Ref sig .tc := ⟨.hbm, 144, rfl⟩
abbrev main_c_34 : Ref sig .tc := ⟨.hbm, 145, rfl⟩
abbrev main_v85 : Ref sig .tc := ⟨.hbm, 146, rfl⟩
abbrev main_cst_35 : Ref sig .tc := ⟨.hbm, 147, rfl⟩
abbrev main_v86 : Ref sig .tc := ⟨.hbm, 148, rfl⟩
abbrev main_v87 : Ref sig .tc := ⟨.hbm, 149, rfl⟩
abbrev main_v88 : Ref sig .tc := ⟨.hbm, 150, rfl⟩
abbrev main_v89 : Ref sig .tc := ⟨.hbm, 151, rfl⟩
abbrev main_v90 : Ref sig .tc := ⟨.hbm, 152, rfl⟩
abbrev main_v91 : Ref sig .tc := ⟨.hbm, 153, rfl⟩
abbrev main_v92 : Ref sig .tc := ⟨.hbm, 154, rfl⟩
abbrev main_v93 : Ref sig .tc := ⟨.hbm, 155, rfl⟩
abbrev main_v94 : Ref sig .tc := ⟨.hbm, 156, rfl⟩
abbrev main_c_36 : Ref sig .tc := ⟨.hbm, 157, rfl⟩
abbrev main_v95 : Ref sig .tc := ⟨.hbm, 158, rfl⟩
abbrev main_c_37 : Ref sig .tc := ⟨.hbm, 159, rfl⟩
abbrev main_v96 : Ref sig .tc := ⟨.hbm, 160, rfl⟩
abbrev main_v97 : Ref sig .tc := ⟨.hbm, 161, rfl⟩
abbrev main_c_38 : Ref sig .tc := ⟨.hbm, 162, rfl⟩
abbrev main_c_39 : Ref sig .tc := ⟨.hbm, 163, rfl⟩
abbrev main_call4_v0 : Ref sig .tc := ⟨.hbm, 164, rfl⟩
abbrev main_call4_v1 : Ref sig .tc := ⟨.hbm, 165, rfl⟩
abbrev main_call4_v2 : Ref sig .tc := ⟨.hbm, 166, rfl⟩
abbrev main_call4_v3 : Ref sig .tc := ⟨.hbm, 167, rfl⟩
abbrev main_call4_v4 : Ref sig .tc := ⟨.hbm, 168, rfl⟩
abbrev main_v98 : Ref sig .tc := ⟨.hbm, 169, rfl⟩
abbrev main_v99 : Ref sig .tc := ⟨.hbm, 170, rfl⟩
abbrev main_call5_c : Ref sig .tc := ⟨.hbm, 171, rfl⟩
abbrev main_call5_v0 : Ref sig .tc := ⟨.hbm, 172, rfl⟩
abbrev main_call5_v1 : Ref sig .tc := ⟨.hbm, 173, rfl⟩
abbrev main_call5_c_0 : Ref sig .tc := ⟨.hbm, 174, rfl⟩
abbrev main_call5_v2 : Ref sig .tc := ⟨.hbm, 175, rfl⟩
abbrev main_call5_v3 : Ref sig .tc := ⟨.hbm, 176, rfl⟩
abbrev main_call5_v4 : Ref sig .tc := ⟨.hbm, 177, rfl⟩
abbrev main_call5_v5 : Ref sig .tc := ⟨.hbm, 178, rfl⟩
abbrev main_call5_c_1 : Ref sig .tc := ⟨.hbm, 179, rfl⟩
abbrev main_call5_c_2 : Ref sig .tc := ⟨.hbm, 180, rfl⟩
abbrev main_call5_v6 : Ref sig .tc := ⟨.hbm, 181, rfl⟩
abbrev main_call5_v7 : Ref sig .tc := ⟨.hbm, 182, rfl⟩
abbrev main_call5_v8 : Ref sig .tc := ⟨.hbm, 183, rfl⟩
abbrev main_call5_v9 : Ref sig .tc := ⟨.hbm, 184, rfl⟩
abbrev main_call5_v10 : Ref sig .tc := ⟨.hbm, 185, rfl⟩
abbrev main_call5_v11 : Ref sig .tc := ⟨.hbm, 186, rfl⟩
abbrev main_call5_c_3 : Ref sig .tc := ⟨.hbm, 187, rfl⟩
abbrev main_call5_v12 : Ref sig .tc := ⟨.hbm, 188, rfl⟩
abbrev main_call5_v13 : Ref sig .tc := ⟨.hbm, 189, rfl⟩
abbrev main_call5_cst : Ref sig .tc := ⟨.hbm, 190, rfl⟩
abbrev main_call5_v14 : Ref sig .tc := ⟨.hbm, 191, rfl⟩
abbrev main_v100 : Ref sig .tc := ⟨.hbm, 192, rfl⟩
abbrev main_v101 : Ref sig .tc := ⟨.hbm, 193, rfl⟩
abbrev main_v102 : Ref sig .tc := ⟨.hbm, 194, rfl⟩
abbrev main_call6_c : Ref sig .tc := ⟨.hbm, 195, rfl⟩
abbrev main_call6_v0 : Ref sig .tc := ⟨.hbm, 196, rfl⟩
abbrev main_call6_v1 : Ref sig .tc := ⟨.hbm, 197, rfl⟩
abbrev main_call6_c_0 : Ref sig .tc := ⟨.hbm, 198, rfl⟩
abbrev main_call6_v2 : Ref sig .tc := ⟨.hbm, 199, rfl⟩
abbrev main_call6_v3 : Ref sig .tc := ⟨.hbm, 200, rfl⟩
abbrev main_call6_v4 : Ref sig .tc := ⟨.hbm, 201, rfl⟩
abbrev main_call6_v5 : Ref sig .tc := ⟨.hbm, 202, rfl⟩
abbrev main_call6_c_1 : Ref sig .tc := ⟨.hbm, 203, rfl⟩
abbrev main_call6_c_2 : Ref sig .tc := ⟨.hbm, 204, rfl⟩
abbrev main_call6_v6 : Ref sig .tc := ⟨.hbm, 205, rfl⟩
abbrev main_call6_v7 : Ref sig .tc := ⟨.hbm, 206, rfl⟩
abbrev main_call6_v8 : Ref sig .tc := ⟨.hbm, 207, rfl⟩
abbrev main_call6_v9 : Ref sig .tc := ⟨.hbm, 208, rfl⟩
abbrev main_call6_v10 : Ref sig .tc := ⟨.hbm, 209, rfl⟩
abbrev main_call6_v11 : Ref sig .tc := ⟨.hbm, 210, rfl⟩
abbrev main_call6_c_3 : Ref sig .tc := ⟨.hbm, 211, rfl⟩
abbrev main_call6_v12 : Ref sig .tc := ⟨.hbm, 212, rfl⟩
abbrev main_call6_v13 : Ref sig .tc := ⟨.hbm, 213, rfl⟩
abbrev main_call6_cst : Ref sig .tc := ⟨.hbm, 214, rfl⟩
abbrev main_call6_v14 : Ref sig .tc := ⟨.hbm, 215, rfl⟩
abbrev main_v103 : Ref sig .tc := ⟨.hbm, 216, rfl⟩
abbrev main_v104 : Ref sig .tc := ⟨.hbm, 217, rfl⟩
abbrev main_v105 : Ref sig .tc := ⟨.hbm, 218, rfl⟩
abbrev main_call7_c : Ref sig .tc := ⟨.hbm, 219, rfl⟩
abbrev main_call7_v0 : Ref sig .tc := ⟨.hbm, 220, rfl⟩
abbrev main_call7_v1 : Ref sig .tc := ⟨.hbm, 221, rfl⟩
abbrev main_call7_c_0 : Ref sig .tc := ⟨.hbm, 222, rfl⟩
abbrev main_call7_v2 : Ref sig .tc := ⟨.hbm, 223, rfl⟩
abbrev main_call7_v3 : Ref sig .tc := ⟨.hbm, 224, rfl⟩
abbrev main_call7_v4 : Ref sig .tc := ⟨.hbm, 225, rfl⟩
abbrev main_call7_v5 : Ref sig .tc := ⟨.hbm, 226, rfl⟩
abbrev main_call7_c_1 : Ref sig .tc := ⟨.hbm, 227, rfl⟩
abbrev main_call7_c_2 : Ref sig .tc := ⟨.hbm, 228, rfl⟩
abbrev main_call7_v6 : Ref sig .tc := ⟨.hbm, 229, rfl⟩
abbrev main_call7_v7 : Ref sig .tc := ⟨.hbm, 230, rfl⟩
abbrev main_call7_v8 : Ref sig .tc := ⟨.hbm, 231, rfl⟩
abbrev main_call7_v9 : Ref sig .tc := ⟨.hbm, 232, rfl⟩
abbrev main_call7_v10 : Ref sig .tc := ⟨.hbm, 233, rfl⟩
abbrev main_call7_v11 : Ref sig .tc := ⟨.hbm, 234, rfl⟩
abbrev main_call7_c_3 : Ref sig .tc := ⟨.hbm, 235, rfl⟩
abbrev main_call7_v12 : Ref sig .tc := ⟨.hbm, 236, rfl⟩
abbrev main_call7_v13 : Ref sig .tc := ⟨.hbm, 237, rfl⟩
abbrev main_call7_cst : Ref sig .tc := ⟨.hbm, 238, rfl⟩
abbrev main_call7_v14 : Ref sig .tc := ⟨.hbm, 239, rfl⟩
abbrev main_v106 : Ref sig .tc := ⟨.hbm, 240, rfl⟩
abbrev main_v107 : Ref sig .tc := ⟨.hbm, 241, rfl⟩
abbrev main_v108 : Ref sig .tc := ⟨.hbm, 242, rfl⟩
abbrev main_v109 : Ref sig .tc := ⟨.hbm, 243, rfl⟩
abbrev main_call8_c : Ref sig .tc := ⟨.hbm, 244, rfl⟩
abbrev main_call8_v0 : Ref sig .tc := ⟨.hbm, 245, rfl⟩
abbrev main_call8_v1 : Ref sig .tc := ⟨.hbm, 246, rfl⟩
abbrev main_call8_c_0 : Ref sig .tc := ⟨.hbm, 247, rfl⟩
abbrev main_call8_v2 : Ref sig .tc := ⟨.hbm, 248, rfl⟩
abbrev main_call8_v3 : Ref sig .tc := ⟨.hbm, 249, rfl⟩
abbrev main_call8_v4 : Ref sig .tc := ⟨.hbm, 250, rfl⟩
abbrev main_call8_v5 : Ref sig .tc := ⟨.hbm, 251, rfl⟩
abbrev main_call8_c_1 : Ref sig .tc := ⟨.hbm, 252, rfl⟩
abbrev main_call8_c_2 : Ref sig .tc := ⟨.hbm, 253, rfl⟩
abbrev main_call8_v6 : Ref sig .tc := ⟨.hbm, 254, rfl⟩
abbrev main_call8_v7 : Ref sig .tc := ⟨.hbm, 255, rfl⟩
abbrev main_call8_v8 : Ref sig .tc := ⟨.hbm, 256, rfl⟩
abbrev main_call8_v9 : Ref sig .tc := ⟨.hbm, 257, rfl⟩
abbrev main_call8_v10 : Ref sig .tc := ⟨.hbm, 258, rfl⟩
abbrev main_call8_v11 : Ref sig .tc := ⟨.hbm, 259, rfl⟩
abbrev main_call8_c_3 : Ref sig .tc := ⟨.hbm, 260, rfl⟩
abbrev main_call8_v12 : Ref sig .tc := ⟨.hbm, 261, rfl⟩
abbrev main_call8_v13 : Ref sig .tc := ⟨.hbm, 262, rfl⟩
abbrev main_call8_cst : Ref sig .tc := ⟨.hbm, 263, rfl⟩
abbrev main_call8_v14 : Ref sig .tc := ⟨.hbm, 264, rfl⟩
abbrev main_v110 : Ref sig .tc := ⟨.hbm, 265, rfl⟩
abbrev main_v111 : Ref sig .tc := ⟨.hbm, 266, rfl⟩
abbrev main_v112 : Ref sig .tc := ⟨.hbm, 267, rfl⟩
abbrev main_call9_c : Ref sig .tc := ⟨.hbm, 268, rfl⟩
abbrev main_call9_v0 : Ref sig .tc := ⟨.hbm, 269, rfl⟩
abbrev main_call9_v1 : Ref sig .tc := ⟨.hbm, 270, rfl⟩
abbrev main_call9_c_0 : Ref sig .tc := ⟨.hbm, 271, rfl⟩
abbrev main_call9_v2 : Ref sig .tc := ⟨.hbm, 272, rfl⟩
abbrev main_call9_v3 : Ref sig .tc := ⟨.hbm, 273, rfl⟩
abbrev main_call9_v4 : Ref sig .tc := ⟨.hbm, 274, rfl⟩
abbrev main_call9_v5 : Ref sig .tc := ⟨.hbm, 275, rfl⟩
abbrev main_call9_c_1 : Ref sig .tc := ⟨.hbm, 276, rfl⟩
abbrev main_call9_c_2 : Ref sig .tc := ⟨.hbm, 277, rfl⟩
abbrev main_call9_v6 : Ref sig .tc := ⟨.hbm, 278, rfl⟩
abbrev main_call9_v7 : Ref sig .tc := ⟨.hbm, 279, rfl⟩
abbrev main_call9_v8 : Ref sig .tc := ⟨.hbm, 280, rfl⟩
abbrev main_call9_v9 : Ref sig .tc := ⟨.hbm, 281, rfl⟩
abbrev main_call9_v10 : Ref sig .tc := ⟨.hbm, 282, rfl⟩
abbrev main_call9_v11 : Ref sig .tc := ⟨.hbm, 283, rfl⟩
abbrev main_call9_c_3 : Ref sig .tc := ⟨.hbm, 284, rfl⟩
abbrev main_call9_v12 : Ref sig .tc := ⟨.hbm, 285, rfl⟩
abbrev main_call9_v13 : Ref sig .tc := ⟨.hbm, 286, rfl⟩
abbrev main_call9_cst : Ref sig .tc := ⟨.hbm, 287, rfl⟩
abbrev main_call9_v14 : Ref sig .tc := ⟨.hbm, 288, rfl⟩
abbrev main_v113 : Ref sig .tc := ⟨.hbm, 289, rfl⟩
abbrev main_v114 : Ref sig .tc := ⟨.hbm, 290, rfl⟩
abbrev main_c_40 : Ref sig .tc := ⟨.hbm, 291, rfl⟩
abbrev main_v115 : Ref sig .tc := ⟨.hbm, 292, rfl⟩
abbrev main_v116 : Ref sig .tc := ⟨.hbm, 293, rfl⟩
abbrev main_v117 : Ref sig .tc := ⟨.hbm, 294, rfl⟩
abbrev main_call10_c : Ref sig .tc := ⟨.hbm, 295, rfl⟩
abbrev main_call10_v0 : Ref sig .tc := ⟨.hbm, 296, rfl⟩
abbrev main_call10_v1 : Ref sig .tc := ⟨.hbm, 297, rfl⟩
abbrev main_call10_c_0 : Ref sig .tc := ⟨.hbm, 298, rfl⟩
abbrev main_call10_v2 : Ref sig .tc := ⟨.hbm, 299, rfl⟩
abbrev main_call10_v3 : Ref sig .tc := ⟨.hbm, 300, rfl⟩
abbrev main_call10_v4 : Ref sig .tc := ⟨.hbm, 301, rfl⟩
abbrev main_call10_v5 : Ref sig .tc := ⟨.hbm, 302, rfl⟩
abbrev main_call10_c_1 : Ref sig .tc := ⟨.hbm, 303, rfl⟩
abbrev main_call10_c_2 : Ref sig .tc := ⟨.hbm, 304, rfl⟩
abbrev main_call10_v6 : Ref sig .tc := ⟨.hbm, 305, rfl⟩
abbrev main_call10_v7 : Ref sig .tc := ⟨.hbm, 306, rfl⟩
abbrev main_call10_v8 : Ref sig .tc := ⟨.hbm, 307, rfl⟩
abbrev main_call10_v9 : Ref sig .tc := ⟨.hbm, 308, rfl⟩
abbrev main_call10_v10 : Ref sig .tc := ⟨.hbm, 309, rfl⟩
abbrev main_call10_v11 : Ref sig .tc := ⟨.hbm, 310, rfl⟩
abbrev main_call10_c_3 : Ref sig .tc := ⟨.hbm, 311, rfl⟩
abbrev main_call10_v12 : Ref sig .tc := ⟨.hbm, 312, rfl⟩
abbrev main_call10_v13 : Ref sig .tc := ⟨.hbm, 313, rfl⟩
abbrev main_call10_cst : Ref sig .tc := ⟨.hbm, 314, rfl⟩
abbrev main_call10_v14 : Ref sig .tc := ⟨.hbm, 315, rfl⟩
abbrev main_v118 : Ref sig .tc := ⟨.hbm, 316, rfl⟩
abbrev main_v119 : Ref sig .tc := ⟨.hbm, 317, rfl⟩
abbrev main_v120 : Ref sig .tc := ⟨.hbm, 318, rfl⟩
abbrev main_call11_c : Ref sig .tc := ⟨.hbm, 319, rfl⟩
abbrev main_call11_v0 : Ref sig .tc := ⟨.hbm, 320, rfl⟩
abbrev main_call11_v1 : Ref sig .tc := ⟨.hbm, 321, rfl⟩
abbrev main_call11_c_0 : Ref sig .tc := ⟨.hbm, 322, rfl⟩
abbrev main_call11_v2 : Ref sig .tc := ⟨.hbm, 323, rfl⟩
abbrev main_call11_v3 : Ref sig .tc := ⟨.hbm, 324, rfl⟩
abbrev main_call11_v4 : Ref sig .tc := ⟨.hbm, 325, rfl⟩
abbrev main_call11_v5 : Ref sig .tc := ⟨.hbm, 326, rfl⟩
abbrev main_call11_c_1 : Ref sig .tc := ⟨.hbm, 327, rfl⟩
abbrev main_call11_c_2 : Ref sig .tc := ⟨.hbm, 328, rfl⟩
abbrev main_call11_v6 : Ref sig .tc := ⟨.hbm, 329, rfl⟩
abbrev main_call11_v7 : Ref sig .tc := ⟨.hbm, 330, rfl⟩
abbrev main_call11_v8 : Ref sig .tc := ⟨.hbm, 331, rfl⟩
abbrev main_call11_v9 : Ref sig .tc := ⟨.hbm, 332, rfl⟩
abbrev main_call11_v10 : Ref sig .tc := ⟨.hbm, 333, rfl⟩
abbrev main_call11_v11 : Ref sig .tc := ⟨.hbm, 334, rfl⟩
abbrev main_call11_c_3 : Ref sig .tc := ⟨.hbm, 335, rfl⟩
abbrev main_call11_v12 : Ref sig .tc := ⟨.hbm, 336, rfl⟩
abbrev main_call11_v13 : Ref sig .tc := ⟨.hbm, 337, rfl⟩
abbrev main_call11_cst : Ref sig .tc := ⟨.hbm, 338, rfl⟩
abbrev main_call11_v14 : Ref sig .tc := ⟨.hbm, 339, rfl⟩
abbrev main_v121 : Ref sig .tc := ⟨.hbm, 340, rfl⟩
abbrev main_v122 : Ref sig .tc := ⟨.hbm, 341, rfl⟩
abbrev main_v123 : Ref sig .tc := ⟨.hbm, 342, rfl⟩
abbrev main_v124 : Ref sig .tc := ⟨.hbm, 343, rfl⟩
abbrev main_cst_41 : Ref sig .tc := ⟨.hbm, 344, rfl⟩
abbrev main_v125 : Ref sig .tc := ⟨.hbm, 345, rfl⟩
abbrev main_v126 : Ref sig .tc := ⟨.hbm, 346, rfl⟩
abbrev main_v127 : Ref sig .tc := ⟨.hbm, 347, rfl⟩
abbrev main_v128 : Ref sig .tc := ⟨.hbm, 348, rfl⟩
abbrev main_v129 : Ref sig .tc := ⟨.hbm, 349, rfl⟩
abbrev main_v130 : Ref sig .tc := ⟨.hbm, 350, rfl⟩
abbrev main_v131 : Ref sig .tc := ⟨.hbm, 351, rfl⟩
abbrev main_v132 : Ref sig .tc := ⟨.hbm, 352, rfl⟩
abbrev main_v133 : Ref sig .tc := ⟨.hbm, 353, rfl⟩
abbrev main_cst_42 : Ref sig .tc := ⟨.hbm, 354, rfl⟩
abbrev main_v134 : Ref sig .tc := ⟨.hbm, 355, rfl⟩
abbrev main_v135 : Ref sig .tc := ⟨.hbm, 356, rfl⟩
abbrev main_v136 : Ref sig .tc := ⟨.hbm, 357, rfl⟩
abbrev main_v137 : Ref sig .tc := ⟨.hbm, 358, rfl⟩
abbrev main_v138 : Ref sig .tc := ⟨.hbm, 359, rfl⟩
abbrev main_v139 : Ref sig .tc := ⟨.hbm, 360, rfl⟩
abbrev main_v140 : Ref sig .tc := ⟨.hbm, 361, rfl⟩
abbrev main_v141 : Ref sig .tc := ⟨.hbm, 362, rfl⟩
abbrev main_v142 : Ref sig .tc := ⟨.hbm, 363, rfl⟩
abbrev main_v143 : Ref sig .tc := ⟨.hbm, 364, rfl⟩
abbrev main_cst_43 : Ref sig .tc := ⟨.hbm, 365, rfl⟩
abbrev main_v144 : Ref sig .tc := ⟨.hbm, 366, rfl⟩
abbrev main_v145 : Ref sig .tc := ⟨.hbm, 367, rfl⟩
abbrev main_v146 : Ref sig .tc := ⟨.hbm, 368, rfl⟩
abbrev main_v147 : Ref sig .tc := ⟨.hbm, 369, rfl⟩
abbrev main_cst_44 : Ref sig .tc := ⟨.hbm, 370, rfl⟩
abbrev main_v148 : Ref sig .tc := ⟨.hbm, 371, rfl⟩
abbrev main_v149 : Ref sig .tc := ⟨.hbm, 372, rfl⟩
abbrev main_v150 : Ref sig .tc := ⟨.hbm, 373, rfl⟩
abbrev main_v151 : Ref sig .tc := ⟨.hbm, 374, rfl⟩
abbrev main_v152 : Ref sig .tc := ⟨.hbm, 375, rfl⟩
abbrev main_v153 : Ref sig .tc := ⟨.hbm, 376, rfl⟩
abbrev main_v154 : Ref sig .tc := ⟨.hbm, 377, rfl⟩
abbrev main_v155 : Ref sig .tc := ⟨.hbm, 378, rfl⟩
abbrev main_cst_45 : Ref sig .tc := ⟨.hbm, 379, rfl⟩
abbrev main_v156 : Ref sig .tc := ⟨.hbm, 380, rfl⟩
abbrev main_v157 : Ref sig .tc := ⟨.hbm, 381, rfl⟩
abbrev main_v158 : Ref sig .tc := ⟨.hbm, 382, rfl⟩
abbrev main_v159 : Ref sig .tc := ⟨.hbm, 383, rfl⟩
abbrev main_cst_46 : Ref sig .tc := ⟨.hbm, 384, rfl⟩
abbrev main_call13_v0 : Ref sig .tc := ⟨.hbm, 385, rfl⟩
abbrev main_call13_v1 : Ref sig .tc := ⟨.hbm, 386, rfl⟩
abbrev main_v160 : Ref sig .tc := ⟨.hbm, 387, rfl⟩
abbrev main_v161 : Ref sig .tc := ⟨.hbm, 388, rfl⟩
abbrev main_c_47 : Ref sig .tc := ⟨.hbm, 389, rfl⟩
abbrev main_v162 : Ref sig .tc := ⟨.hbm, 390, rfl⟩
abbrev main_v163 : Ref sig .tc := ⟨.hbm, 391, rfl⟩

abbrev nD : Nat := 1
abbrev τ : Topo := Topo.v7x

variable {F : FTy → Type} [FloatOps F]
-- ==== Proof.Consts.lean ====
module
public import Idealize.ShloMosaic.PureOps.Ideal
public import Idealize.ShloMosaic.PureOps.Ideal.Laws
public import Idealize.ShloMosaic.Lib.IdealHost
public import Idealize.ShloMosaic.Lib.Pointwise

/-! The constants the two programs write as bit patterns, and the arithmetic of the extended reals at real numbers. -/

@[expose] public section

namespace Cert.Spline

open Idealize.ShloMosaic

/-! ### Bit patterns -/

theorem bits_one : Ideal.ofBits .f32 0x3F800000#32 = ((1 : ℝ) : EReal) := by
  rw [Ideal.ofBits_one_f32]; rfl
theorem bits_two : Ideal.ofBits .f32 0x40000000#32 = ((2 : ℝ) : EReal) := by
  simp [Ideal.ofBits, Ideal.ieee, -EReal.coe_mul]; norm_num
theorem bits_three : Ideal.ofBits .f32 0x40400000#32 = ((3 : ℝ) : EReal) := by
  simp [Ideal.ofBits, Ideal.ieee, -EReal.coe_mul]; norm_num
theorem bits_neg_three : Ideal.ofBits .f32 0xC0400000#32 = ((-3 : ℝ) : EReal) := by
  simp [Ideal.ofBits, Ideal.ieee, -EReal.coe_mul]; norm_num
theorem bits_six : Ideal.ofBits .f32 0x40C00000#32 = ((6 : ℝ) : EReal) := by
  simp [Ideal.ofBits, Ideal.ieee, -EReal.coe_mul]; norm_num
theorem bits_eight : Ideal.ofBits .f32 0x41000000#32 = ((8 : ℝ) : EReal) := by
  simp [Ideal.ofBits, Ideal.ieee, -EReal.coe_mul]; norm_num
theorem bits_thousand : Ideal.ofBits .f32 0x447A0000#32 = ((1000 : ℝ) : EReal) := by
  simp [Ideal.ofBits, Ideal.ieee, -EReal.coe_mul]; norm_num
theorem bits_neg_inf : Ideal.ofBits .f32 0xFF800000#32 = ⊥ := by
  simp [Ideal.ofBits, Ideal.ieee]
theorem bits_inf : Ideal.ofBits .f32 0x7F800000#32 = ⊤ := by
  simp [Ideal.ofBits, Ideal.ieee]

/-! ### Real arithmetic inside the extended reals -/

theorem coe_sum {n : Nat} (f : Fin n → ℝ) : (∑ i, ((f i : ℝ) : EReal)) = ((∑ i, f i : ℝ) : EReal) := by
  induction n with
  | zero => simp
  | succ n ih => rw [Fin.sum_univ_succ, Fin.sum_univ_succ, ih, EReal.coe_add]

theorem coe_max (a b : ℝ) : max (a : EReal) (b : EReal) = ((max a b : ℝ) : EReal) :=
  (EReal.coe_strictMono.monotone.map_max).symm

theorem coe_min (a b : ℝ) : min (a : EReal) (b : EReal) = ((min a b : ℝ) : EReal) :=
  (EReal.coe_strictMono.monotone.map_min).symm

/-- A quotient by a real that is not zero. -/
theorem div_real (a b : ℝ) (h : b ≠ 0) : Ideal.div (a : EReal) (b : EReal) = ((a / b : ℝ) : EReal) := by
  rw [Ideal.div_coe h, ← EReal.coe_mul]; congr 1; ring

/-- The logarithm of a positive real. -/
theorem log_real (a : ℝ) (h : 0 < a) : Ideal.log (a : EReal) = ((Real.log a : ℝ) : EReal) := by
  rw [Ideal.log_coe, if_neg (not_le.2 h)]

/-- `log1p` of a real above zero. -/
theorem log1p_real (a : ℝ) (h : 0 < a) : Ideal.log1p (a : EReal) = ((Real.log (1 + a) : ℝ) : EReal) := by
  have : Ideal.log1p (a : EReal) = Ideal.log (1 + (a : EReal)) := rfl
  rw [this, ← EReal.coe_one, ← EReal.coe_add, log_real _ (by linarith)]

/-- The absolute value of a real. -/
theorem abs_real (a : ℝ) : max (a : EReal) (-(a : EReal)) = ((|a| : ℝ) : EReal) := by
  rw [← EReal.coe_neg, coe_max]; rfl

/-- An extended real is a real number. -/
def IsReal (x : EReal) : Prop := x = ((x.toReal : ℝ) : EReal)

theorem isReal_coe (a : ℝ) : IsReal (a : EReal) := by unfold IsReal; rw [EReal.toReal_coe]

end Cert.Spline
end
-- ==== Proof.Spline.lean ====
module
public import proofs.«01_k».proof.Proof.Consts
@[expose] public section

/-! One row of the rational-quadratic spline over the real numbers: what the kernel computes from a row's parameters and
    what the reference computes are the same numbers. -/

namespace Cert.Spline

open Real

/-- The eight raw values `u` made into eight widths, each at least `3/500`, that add up to 6. -/
noncomputable def wid (u : Fin 8 → ℝ) (k : Fin 8) : ℝ :=
  3 / 500 + exp (u k) * ((744 / 125) / ∑ j, exp (u j))

theorem sum_exp_pos (u : Fin 8 → ℝ) : 0 < ∑ j, exp (u j) :=
  Finset.sum_pos (fun j _ => exp_pos _) Finset.univ_nonempty

theorem wid_pos (u : Fin 8 → ℝ) (k : Fin 8) : 0 < wid u k := by
  unfold wid
  have := sum_exp_pos u
  have := exp_pos (u k)
  positivity

theorem wid_total (u : Fin 8 → ℝ) : ∑ k, wid u k = 6 := by
  unfold wid
  have h := (sum_exp_pos u).ne'
  rw [Finset.sum_add_distrib, ← Finset.sum_mul, mul_div_cancel₀ _ h]
  simp; norm_num

/-- The sum of the first `k` of eight values. -/
noncomputable def part (w : Fin 8 → ℝ) (k : ℕ) : ℝ := ∑ j : Fin 8, if j.val < k then w j else 0

theorem part_zero (w : Fin 8 → ℝ) : part w 0 = 0 := by simp [part]

theorem part_eight (w : Fin 8 → ℝ) : part w 8 = ∑ j, w j := by
  unfold part; exact Finset.sum_congr rfl (fun j _ => if_pos j.isLt)

theorem part_succ (w : Fin 8 → ℝ) (k : Fin 8) : part w (k.val + 1) = part w k.val + w k := by
  unfold part
  fin_cases k <;> simp [Fin.sum_univ_eight]

/-- The softplus function, as both programs write it. -/
noncomputable def softplus (z : ℝ) : ℝ := max z 0 + log (1 + exp (-|z|))

theorem softplus_pos (z : ℝ) : 0 < softplus z := by
  unfold softplus
  have h1 : 0 < exp (-|z|) := exp_pos _
  have h2 : 0 < log (1 + exp (-|z|)) := log_pos (by linarith)
  have h3 : 0 ≤ max z 0 := le_max_right _ _
  linarith

theorem softplus_eq (z : ℝ) : softplus z = log (1 + exp z) := by
  unfold softplus
  have h1 : 0 < exp (-|z|) := exp_pos _
  rcases le_total 0 z with h | h
  · rw [max_eq_left h, abs_of_nonneg h]
    have hz : 0 < exp (-z) := exp_pos _
    have e : 1 + exp z = exp z * (1 + exp (-z)) := by
      rw [mul_add, ← exp_add]; simp [add_comm]
    rw [e, log_mul (exp_pos z).ne' (by linarith), log_exp]
  · rw [max_eq_right h, abs_of_nonpos h]; simp

/-- The raw value whose softplus is `999/1000`. -/
theorem softplus_end : softplus (log (exp (1 - 1 / 1000) - 1)) = 999 / 1000 := by
  have h : 0 < exp (1 - 1 / 1000 : ℝ) - 1 := by
    have := add_one_lt_exp (x := (1 - 1 / 1000 : ℝ)) (by norm_num)
    linarith [this]
  rw [softplus_eq, exp_log h, add_sub_cancel, log_exp]; norm_num

/-- The derivatives at the nine knots: the seven inner ones from the raw values, 1 at both ends. -/
noncomputable def der (u : Fin 7 → ℝ) (k : ℕ) : ℝ :=
  if h : 1 ≤ k ∧ k ≤ 7 then 1 / 1000 + softplus (u ⟨k - 1, by omega⟩) else 1

theorem der_pos (u : Fin 7 → ℝ) (k : ℕ) : 0 < der u k := by
  unfold der
  split
  · have := softplus_pos (u ⟨k - 1, by omega⟩); linarith
  · norm_num

/-! ### The bin -/

/-- The number of the bin `t` lies in, counted by the inner knots at or below it. -/
noncomputable def bin (w : Fin 8 → ℝ) (t : ℝ) : ℕ :=
  open Classical in (Finset.univ.filter (fun k : Fin 7 => part w (k.val + 1) ≤ t)).card

theorem bin_le (w : Fin 8 → ℝ) (t : ℝ) : bin w t ≤ 7 := by
  unfold bin
  exact (Finset.card_le_univ _).trans (by simp)

/-- A downward closed set of the numbers below 7 is the set of the numbers below its size. -/
theorem down_card (p : Fin 7 → Bool) (h : ∀ k : Fin 6, p k.succ = true → p k.castSucc = true) (k : Fin 7) :
    p k = true ↔ k.val < (Finset.univ.filter (fun i => p i = true)).card := by
  rw [Finset.card_filter]
  have h0 := h 0; have h1 := h 1; have h2 := h 2; have h3 := h 3; have h4 := h 4; have h5 := h 5
  simp only [Fin.sum_univ_succ]
  simp at h0 h1 h2 h3 h4 h5 ⊢
  have hk : k = 0 ∨ k = 1 ∨ k = 2 ∨ k = 3 ∨ k = 4 ∨ k = 5 ∨ k = 6 := by revert k; decide
  by_cases e6 : p 6 = true <;> by_cases e5 : p 5 = true <;> try exact absurd (h5 e6) e5
  all_goals by_cases e4 : p 4 = true <;> try exact absurd (h4 e5) e4
  all_goals by_cases e3 : p 3 = true <;> try exact absurd (h3 e4) e3
  all_goals by_cases e2 : p 2 = true <;> try exact absurd (h2 e3) e2
  all_goals by_cases e1 : p 1 = true <;> try exact absurd (h1 e2) e1
  all_goals by_cases e0 : p 0 = true <;> try exact absurd (h0 e1) e0
  all_goals rcases hk with rfl | rfl | rfl | rfl | rfl | rfl | rfl <;> simp [e0, e1, e2, e3, e4, e5, e6]

theorem bin_iff (w : Fin 8 → ℝ) (hw : ∀ k, 0 < w k) (t : ℝ) (k : Fin 7) :
    part w (k.val + 1) ≤ t ↔ k.val < bin w t := by
  classical
  have := down_card (fun i => decide (part w (i.val + 1) ≤ t)) (by
    intro i hi
    have hs := part_succ w ⟨i.val + 1, by omega⟩
    have hp := hw ⟨i.val + 1, by omega⟩
    simp only [decide_eq_true_eq, Fin.val_succ, Fin.val_castSucc] at hi hs ⊢
    linarith) k
  simp only [decide_eq_true_eq] at this
  rw [this]
  unfold bin
  have e : (Finset.univ.filter (fun i : Fin 7 => part w (i.val + 1) ≤ t)).card
    = (@Finset.filter _ (fun k : Fin 7 => part w (k.val + 1) ≤ t) (fun a => Classical.propDecidable _) Finset.univ).card := by
    congr!
  rw [e]

/-- The bin as a number below 8. -/
noncomputable def bin8 (w : Fin 8 → ℝ) (t : ℝ) : Fin 8 := ⟨bin w t, by have := bin_le w t; omega⟩

theorem bin_lower (w : Fin 8 → ℝ) (hw : ∀ k, 0 < w k) (t : ℝ) (h0 : 0 ≤ t) : part w (bin w t) ≤ t := by
  rcases Nat.eq_zero_or_pos (bin w t) with h | h
  · rw [h, part_zero]; exact h0
  · have hl := bin_le w t
    have := (bin_iff w hw t ⟨bin w t - 1, by omega⟩).2 (by simp; omega)
    simpa [Nat.sub_add_cancel h] using this

theorem bin_upper (w : Fin 8 → ℝ) (hw : ∀ k, 0 < w k) (t : ℝ) (h6 : t ≤ ∑ k, w k) : t ≤ part w (bin w t + 1) := by
  have hl := bin_le w t
  rcases Nat.lt_or_ge (bin w t) 7 with h | h
  · have := (bin_iff w hw t ⟨bin w t, h⟩).not.2 (by simp)
    exact (not_le.1 this).le
  · have : bin w t = 7 := by omega
    rw [this, part_eight]; exact h6

/-- The reference counts all nine knots, takes one away and clips at 7: the same bin. -/
theorem count_nine (w : Fin 8 → ℝ) (hw : ∀ k, 0 < w k) (t : ℝ) (h0 : 0 ≤ t) :
    ∃ c : ℕ, (∑ k : Fin 9, open Classical in if part w k.val ≤ t then 1 else 0) = c + 1 ∧ min 7 c = bin w t := by
  classical
  have hl := bin_le w t
  have hs : (∑ k : Fin 7, if part w (k.val + 1) ≤ t then 1 else 0) = bin w t := by
    unfold bin; rw [Finset.card_filter]
  rw [Fin.sum_univ_succ, Fin.sum_univ_castSucc]
  simp only [Fin.val_succ, Fin.val_castSucc, Fin.val_zero, Fin.val_last, part_zero, if_pos h0]
  rw [show (∑ k : Fin 7, if part w (k.val + 1) ≤ t then 1 else 0) = bin w t from hs]
  by_cases h8 : part w (7 + 1) ≤ t
  · have h7 : bin w t = 7 := by
      have := (bin_iff w hw t 6).1 (by
        have := part_succ w 7; have := hw 7
        simp at *; linarith)
      simp at this; omega
    exact ⟨8, by simp [h8, h7], by omega⟩
  · exact ⟨bin w t, by simp [h8, add_comm], by omega⟩

/-- Adding up, over the knots passed, the steps of a sequence: its value at the bin. -/
theorem telescope (f : ℕ → ℝ) (b : ℕ) (hb : b ≤ 7) :
    f 0 + ∑ k : Fin 7, (if k.val < b then (1 : ℝ) else 0) * (f (k.val + 1) - f k.val) = f b := by
  interval_cases b <;> simp [Fin.sum_univ_succ] <;> ring

theorem pick_part (w : Fin 8 → ℝ) (b : ℕ) (hb : b ≤ 7) :
    ∑ k : Fin 7, (if k.val < b then (1 : ℝ) else 0) * w k.castSucc = part w b := by
  unfold part
  interval_cases b <;> simp [Fin.sum_univ_succ] <;> rfl

/-! ### The spline in its bin -/

/-- The position in the bin, between 0 and 1. -/
noncomputable def pos (yc cw w : ℝ) : ℝ := (yc - cw) / w

/-- The denominator of the rational function. -/
noncomputable def den (th dl d0 d1 : ℝ) : ℝ := dl + ((d0 + d1) - 2 * dl) * (th * (1 - th))

/-- The polynomial in the derivative's numerator. -/
noncomputable def dnum (th dl d0 d1 : ℝ) : ℝ :=
  (d1 * (th * th) + (2 * dl) * (th * (1 - th))) + d0 * ((1 - th) * (1 - th))

/-- The spline's value. -/
noncomputable def splVal (yc cw w ch h d0 d1 : ℝ) : ℝ :=
  ch + (h * ((h / w) * (pos yc cw w * pos yc cw w) + d0 * (pos yc cw w * (1 - pos yc cw w))))
    / den (pos yc cw w) (h / w) d0 d1

/-- The logarithm of its derivative. -/
noncomputable def splLog (yc cw w h d0 d1 : ℝ) : ℝ :=
  log (((h / w) * (h / w)) * dnum (pos yc cw w) (h / w) d0 d1) - 2 * log (den (pos yc cw w) (h / w) d0 d1)

theorem den_pos (th dl d0 d1 : ℝ) (h0 : 0 ≤ th) (h1 : th ≤ 1) (hl : 0 < dl) (hd0 : 0 < d0) (hd1 : 0 < d1) :
    0 < den th dl d0 d1 := by
  have e : den th dl d0 d1 = dl * (th * th + (1 - th) * (1 - th)) + (d0 + d1) * (th * (1 - th)) := by
    unfold den; ring
  rw [e]
  have h2 : 0 ≤ th * (1 - th) := mul_nonneg h0 (by linarith)
  have h3 : 0 < th * th + (1 - th) * (1 - th) := by nlinarith [sq_nonneg (2 * th - 1)]
  have := mul_pos hl h3
  have := mul_nonneg (add_pos hd0 hd1).le h2
  linarith

theorem dnum_pos (th dl d0 d1 : ℝ) (h0 : 0 ≤ th) (h1 : th ≤ 1) (hl : 0 < dl) (hd0 : 0 < d0) (hd1 : 0 < d1) :
    0 < dnum th dl d0 d1 := by
  unfold dnum
  have h2 : 0 ≤ (2 * dl) * (th * (1 - th)) := mul_nonneg (by linarith) (mul_nonneg h0 (by linarith))
  rcases lt_or_ge th (1 / 2) with h | h
  · have : 0 < d0 * ((1 - th) * (1 - th)) := mul_pos hd0 (mul_pos (by linarith) (by linarith))
    have : 0 ≤ d1 * (th * th) := mul_nonneg hd1.le (mul_nonneg h0 h0)
    linarith
  · have : 0 < d1 * (th * th) := mul_pos hd1 (mul_pos (by linarith) (by linarith))
    have : 0 ≤ d0 * ((1 - th) * (1 - th)) := mul_nonneg hd0.le (mul_nonneg (by linarith) (by linarith))
    linarith

theorem log_split (dl n d : ℝ) (hl : 0 < dl) (hn : 0 < n) (hd : 0 < d) :
    log (((dl * dl * n) * (1 / d)) * (1 / d)) = log ((dl * dl) * n) - 2 * log d := by
  have h1 : ((dl * dl * n) * (1 / d)) * (1 / d) = (dl * dl * n) / (d * d) := by field_simp
  rw [h1, log_div (by positivity) (by positivity), log_mul hd.ne' hd.ne']; ring

/-! ### A whole row -/

/-- The raw widths, heights and inner derivatives in a row of 25 parameters. -/
def rawW (th : Fin 25 → ℝ) (k : Fin 8) : ℝ := th ⟨k.val, by omega⟩
def rawH (th : Fin 25 → ℝ) (k : Fin 8) : ℝ := th ⟨8 + k.val, by omega⟩
def rawD (th : Fin 25 → ℝ) (k : Fin 7) : ℝ := th ⟨17 + k.val, by omega⟩

/-- The bin of a row. -/
noncomputable def rowBin (th : Fin 25 → ℝ) (yc : ℝ) : Fin 8 := bin8 (wid (rawW th)) (yc + 3)

/-- The spline's value on a row, at a point of [-3, 3]. -/
noncomputable def rowVal (th : Fin 25 → ℝ) (yc : ℝ) : ℝ :=
  splVal yc (part (wid (rawW th)) (rowBin th yc) - 3) (wid (rawW th) (rowBin th yc))
    (part (wid (rawH th)) (rowBin th yc) - 3) (wid (rawH th) (rowBin th yc))
    (der (rawD th) (rowBin th yc)) (der (rawD th) ((rowBin th yc).val + 1))

/-- The logarithm of its derivative there. -/
noncomputable def rowLog (th : Fin 25 → ℝ) (yc : ℝ) : ℝ :=
  splLog yc (part (wid (rawW th)) (rowBin th yc) - 3) (wid (rawW th) (rowBin th yc))
    (wid (rawH th) (rowBin th yc)) (der (rawD th) (rowBin th yc)) (der (rawD th) ((rowBin th yc).val + 1))

/-- The position in the bin of a row. -/
noncomputable def rowPos (th : Fin 25 → ℝ) (yc : ℝ) : ℝ :=
  pos yc (part (wid (rawW th)) (rowBin th yc) - 3) (wid (rawW th) (rowBin th yc))

theorem rowPos_mem (th : Fin 25 → ℝ) (yc : ℝ) (h0 : -3 ≤ yc) (h1 : yc ≤ 3) : 0 ≤ rowPos th yc ∧ rowPos th yc ≤ 1 := by
  have hw := wid_pos (rawW th)
  have hl := bin_lower (wid (rawW th)) hw (yc + 3) (by linarith)
  have hu := bin_upper (wid (rawW th)) hw (yc + 3) (by rw [wid_total]; linarith)
  have hs := part_succ (wid (rawW th)) (rowBin th yc)
  have hp := hw (rowBin th yc)
  change part _ (rowBin th yc).val ≤ _ at hl
  change _ ≤ part _ ((rowBin th yc).val + 1) at hu
  unfold rowPos pos
  exact ⟨div_nonneg (by linarith) hp.le, (div_le_one hp).2 (by linarith)⟩

/-- Slope, denominator and numerator of a row are positive. -/
theorem row_pos (th : Fin 25 → ℝ) (yc : ℝ) (h0 : -3 ≤ yc) (h1 : yc ≤ 3) :
    0 < wid (rawH th) (rowBin th yc) / wid (rawW th) (rowBin th yc)
    ∧ 0 < den (rowPos th yc) (wid (rawH th) (rowBin th yc) / wid (rawW th) (rowBin th yc))
        (der (rawD th) (rowBin th yc)) (der (rawD th) ((rowBin th yc).val + 1))
    ∧ 0 < dnum (rowPos th yc) (wid (rawH th) (rowBin th yc) / wid (rawW th) (rowBin th yc))
        (der (rawD th) (rowBin th yc)) (der (rawD th) ((rowBin th yc).val + 1)) := by
  obtain ⟨hp0, hp1⟩ := rowPos_mem th yc h0 h1
  have hl := div_pos (wid_pos (rawH th) (rowBin th yc)) (wid_pos (rawW th) (rowBin th yc))
  exact ⟨hl, den_pos _ _ _ _ hp0 hp1 hl (der_pos _ _) (der_pos _ _), dnum_pos _ _ _ _ hp0 hp1 hl (der_pos _ _) (der_pos _ _)⟩

/-! ### The two results of a row, at any `y` -/

open Idealize.ShloMosaic

/-- The evaluation point brought into [-3, 3], as a real number: whatever `y` is, the result is one. -/
noncomputable def clampR (y : EReal) : ℝ := (min ((3 : ℝ) : EReal) (max ((-3 : ℝ) : EReal) y)).toReal

theorem coe_clampR (y : EReal) : ((clampR y : ℝ) : EReal) = min ((3 : ℝ) : EReal) (max ((-3 : ℝ) : EReal) y) := by
  unfold clampR
  refine EReal.coe_toReal ?_ ?_
  · exact ne_of_lt (lt_of_le_of_lt (min_le_left _ _) (EReal.coe_lt_top _))
  · refine ne_of_gt (lt_of_lt_of_le (EReal.bot_lt_coe (-3)) (le_min ?_ (le_max_left _ _)))
    exact EReal.coe_le_coe_iff.2 (by norm_num)

theorem clampR_mem (y : EReal) : -3 ≤ clampR y ∧ clampR y ≤ 3 := by
  have h := coe_clampR y
  constructor
  · rw [← EReal.coe_le_coe_iff, h]
    exact le_min (EReal.coe_le_coe_iff.2 (by norm_num)) (le_max_left _ _)
  · rw [← EReal.coe_le_coe_iff, h]
    exact min_le_left _ _

/-- Whether `y` lies in [-3, 3], as both programs test it. -/
noncomputable def inside (y : EReal) : BitVec 1 :=
  IntOp.andi (BitVec.ofBool (decide (((-3 : ℝ) : EReal) ≤ y))) (BitVec.ofBool (decide (y ≤ ((3 : ℝ) : EReal))))

/-- The value the spline sends `y` to: `y` itself outside [-3, 3]. -/
noncomputable def valAt (th : Fin 25 → ℝ) (y : EReal) : EReal :=
  Scalar.select (inside y) ((rowVal th (clampR y) : ℝ) : EReal) y

/-- The logarithm of the derivative there: 0 outside [-3, 3]. -/
noncomputable def logAt (th : Fin 25 → ℝ) (y : EReal) : EReal :=
  Scalar.select (inside y) ((rowLog th (clampR y) : ℝ) : EReal) 0

end Cert.Spline
end
-- ==== Proof.KernelRow.lean ====
module
public import proofs.«01_k».proof.Proof.Gen.KernelIdeal.Frame
public import proofs.«01_k».proof.Proof.Spline

/-! What the kernel's body computes for one row (one column of the transposed tile), as real numbers. -/

@[expose] public section

namespace Cert.KernelIdeal.Row

open Idealize.ShloMosaic Idealize.ShloMosaic.TcCoe Cert.Spline Cert.KernelIdeal Cert.KernelIdeal.Gen

theorem min6 : (Named.named (F := Ideal) κ "min6" (φ := .f32) 0x3BC49BA6#32) = ((3 / 500 : ℝ) : EReal) := by
  exact (IdealRules.named_const.ideal_named_scalar _ _ _ _ rfl).trans (by norm_num)
theorem free6 : (Named.named (F := Ideal) κ "free6" (φ := .f32) 0x40BE76C9#32) = ((744 / 125 : ℝ) : EReal) := by
  exact (IdealRules.named_const.ideal_named_scalar _ _ _ _ rfl).trans (by norm_num)
theorem min1 : (Named.named (F := Ideal) κ "min" (φ := .f32) 0x3A83126F#32) = ((1 / 1000 : ℝ) : EReal) := by
  exact (IdealRules.named_const.ideal_named_scalar _ _ _ _ rfl).trans (by norm_num)

variable (v3 : Vec Ideal S1024x25 .f32) (v10 : Vec Ideal S1024 .f32) (x : Fin 1024) (θ : Fin 25 → ℝ)

theorem wide (hθ : ∀ c, v3 (ix2 x c) = ((θ c : ℝ) : EReal)) (r : Fin 8) :
    k0_pay7 (F := Ideal) v3 (ix2 r x) = ((wid (rawW θ) r : ℝ) : EReal) := by
  unfold_payloads
  pointwise [hθ, min6, free6, Ideal.exp_coe, coe_sum]
  change ((3 / 500 : ℝ) : EReal) + ((Real.exp (rawW θ r) : ℝ) : EReal)
    * Ideal.div ((744 / 125 : ℝ) : EReal) ((∑ j, Real.exp (rawW θ j) : ℝ) : EReal) = _
  rw [div_real _ _ (sum_exp_pos (rawW θ)).ne', ← EReal.coe_mul, ← EReal.coe_add]
  rfl

theorem high (hθ : ∀ c, v3 (ix2 x c) = ((θ c : ℝ) : EReal)) (r : Fin 8) :
    k0_pay8 (F := Ideal) v3 (ix2 r x) = ((wid (rawH θ) r : ℝ) : EReal) := by
  unfold_payloads
  pointwise [hθ, min6, free6, Ideal.exp_coe, coe_sum]
  change ((3 / 500 : ℝ) : EReal) + ((Real.exp (rawH θ r) : ℝ) : EReal)
    * Ideal.div ((744 / 125 : ℝ) : EReal) ((∑ j, Real.exp (rawH θ j) : ℝ) : EReal) = _
  rw [div_real _ _ (sum_exp_pos (rawH θ)).ne', ← EReal.coe_mul, ← EReal.coe_add]
  rfl

theorem point : k0_pay9 (F := Ideal) v10 (ix2 0 x) = ((clampR (v10 (ix1 x)) : ℝ) : EReal) := by
  unfold_payloads
  pointwise [bits_three, bits_neg_three]
  rw [coe_clampR]

/-- The lower triangle of ones, entry by entry. -/
theorem tri (r : Fin 7) (j : Fin 8) :
    (BitVec.setWidth 32 (IntOp.cmpi CmpIPredicate.sle (BitVec.ofNat 32 j.val) (BitVec.ofNat 32 r.val))).toInt
      = if j.val < r.val + 1 then 1 else 0 := by
  revert r j; decide

theorem mask (hθ : ∀ c, v3 (ix2 x c) = ((θ c : ℝ) : EReal)) (r : Fin 7) :
    k0_pay10 (F := Ideal) v3 v10 (ix2 r x)
      = BitVec.ofBool (decide (r.val < (rowBin θ (clampR (v10 (ix1 x)))).val)) := by
  unfold k0_pay10
  pointwise [dot_S7x8_S8x1024_S7x1024_1_0_0_1_n_n, wide v3 x θ hθ, point, bits_three]
  have hs : ∀ j : Fin 8, FloatOps.sitofp (F := Ideal) FTy.f32
      (BitVec.setWidth 32 (IntOp.cmpi CmpIPredicate.sle (BitVec.ofNat 32 j.val) (BitVec.ofNat 32 r.val)))
        * ((wid (rawW θ) j : ℝ) : EReal)
      = (((if j.val < r.val + 1 then wid (rawW θ) j else 0 : ℝ)) : EReal) := by
    intro j
    have : FloatOps.sitofp (F := Ideal) FTy.f32
      (BitVec.setWidth 32 (IntOp.cmpi CmpIPredicate.sle (BitVec.ofNat 32 j.val) (BitVec.ofNat 32 r.val)))
        = ((((if j.val < r.val + 1 then 1 else 0 : ℤ) : ℝ)) : EReal) := by
      rw [← tri]; rfl
    rw [this, ← EReal.coe_mul]
    split <;> simp
  simp only [hs]
  rw [coe_sum, ← EReal.coe_add]
  congr 2
  rw [EReal.coe_le_coe_iff]
  exact propext (bin_iff (wid (rawW θ)) (wid_pos _) _ r)

theorem gate (hθ : ∀ c, v3 (ix2 x c) = ((θ c : ℝ) : EReal)) (r : Fin 7) :
    k0_pay12 (F := Ideal) (k0_pay10 v3 v10) (Scalar.ofBits .f32 0x00000000#32) k0_pay11 (ix2 r x)
      = (((if r.val < (rowBin θ (clampR (v10 (ix1 x)))).val then 1 else 0 : ℝ)) : EReal) := by
  unfold k0_pay12 k0_pay11
  pointwise [mask v3 v10 x θ hθ]
  by_cases h : r.val < (rowBin θ (clampR (v10 (ix1 x)))).val <;> simp [h, Scalar.select]

theorem deriv (hθ : ∀ c, v3 (ix2 x c) = ((θ c : ℝ) : EReal)) (r : Fin 7) :
    k0_pay13 (F := Ideal) (k0_pay5 v3) (ix2 r x) = ((der (rawD θ) (r.val + 1) : ℝ) : EReal) := by
  unfold_payloads
  pointwise [hθ, min1]
  change ((1 / 1000 : ℝ) : EReal) + (max ((rawD θ r : ℝ) : EReal) 0
    + Ideal.log1p (Ideal.exp (0 - max ((rawD θ r : ℝ) : EReal) (-((rawD θ r : ℝ) : EReal))))) = _
  rw [abs_real, ← EReal.coe_zero, coe_max, ← EReal.coe_sub, Ideal.exp_coe, log1p_real _ (Real.exp_pos _), ← EReal.coe_add,
    ← EReal.coe_add]
  have hr : 1 ≤ r.val + 1 ∧ r.val + 1 ≤ 7 := by omega
  unfold der
  rw [dif_pos hr, zero_sub]
  rfl

theorem deriv_next (hθ : ∀ c, v3 (ix2 x c) = ((θ c : ℝ) : EReal)) (r : Fin 7) :
    k0_pay15 (F := Ideal) (k0_pay5 v3) (ix2 r x) = ((der (rawD θ) (r.val + 2) : ℝ) : EReal) := by
  unfold k0_pay15 k0_pay14
  pointwise [deriv v3 x θ hθ]
  split
  · rw [show 1 + r.val + 1 = r.val + 2 by omega]
  · rw [show r.val + 2 = 8 by omega]
    simp [der]

/-- A sum over the gates of real differences. -/
theorem gate_sum (b : ℕ) (f : Fin 7 → ℝ) :
    (∑ k : Fin 7, ((if k.val < b then (1 : ℝ) else 0 : ℝ) : EReal) * ((f k : ℝ) : EReal))
      = ((∑ k : Fin 7, (if k.val < b then (1 : ℝ) else 0) * f k : ℝ) : EReal) := by
  rw [← coe_sum]; exact Finset.sum_congr rfl (fun k _ => (EReal.coe_mul _ _).symm)

/-- The steps of a sequence, added up over the gates: its value at the bin. -/
theorem steps (f : ℕ → ℝ) (i : Fin 8) :
    ((f 0 : ℝ) : EReal) + (∑ k : Fin 7, ((if k.val < i.val then (1 : ℝ) else 0 : ℝ) : EReal)
        * (((f (k.val + 1) : ℝ) : EReal) - ((f k.val : ℝ) : EReal))) = ((f i.val : ℝ) : EReal) := by
  simp only [← EReal.coe_sub]
  rw [gate_sum i.val (fun k => f (k.val + 1) - f k.val), ← EReal.coe_add, telescope f i.val (by omega)]

/-- Eight values as a sequence. -/
noncomputable def seq (w : Fin 8 → ℝ) (k : ℕ) : ℝ := if h : k < 8 then w ⟨k, h⟩ else 0

theorem seq_val (w : Fin 8 → ℝ) (k : Fin 8) : w k = seq w k.val := by simp [seq]

section Gated

variable (m : IVec S7x1024 1) (c : Ideal .f32) (o : FVec Ideal S7x1024 .f32) (i : Fin 8)

theorem left_end (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay16 (F := Ideal) (k0_pay7 v3) m c o (ix2 0 x) = ((part (wid (rawW θ)) i - 3 : ℝ) : EReal) := by
  unfold k0_pay16
  pointwise [hg, wide v3 x θ hθ, bits_three]
  refine (congrArg (· - ((3 : ℝ) : EReal)) (gate_sum _ (fun k : Fin 7 => wid (rawW θ) k.castSucc))).trans ?_
  rw [pick_part _ _ (by omega)]
  exact (EReal.coe_sub _ _).symm

theorem left_height (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay17 (F := Ideal) (k0_pay8 v3) m c o (ix2 0 x) = ((part (wid (rawH θ)) i - 3 : ℝ) : EReal) := by
  unfold k0_pay17
  pointwise [hg, high v3 x θ hθ, bits_three]
  refine (congrArg (· - ((3 : ℝ) : EReal)) (gate_sum _ (fun k : Fin 7 => wid (rawH θ) k.castSucc))).trans ?_
  rw [pick_part _ _ (by omega)]
  exact (EReal.coe_sub _ _).symm

theorem the_width (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay18 (F := Ideal) (k0_pay7 v3) m c o (ix2 0 x) = ((wid (rawW θ) i : ℝ) : EReal) := by
  unfold k0_pay18
  pointwise [hg, wide v3 x θ hθ, seq_val (wid (rawW θ)), Nat.add_comm 1]
  exact steps (seq (wid (rawW θ))) i

theorem the_height (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay19 (F := Ideal) (k0_pay8 v3) m c o (ix2 0 x) = ((wid (rawH θ) i : ℝ) : EReal) := by
  unfold k0_pay19
  pointwise [hg, high v3 x θ hθ, seq_val (wid (rawH θ)), Nat.add_comm 1]
  exact steps (seq (wid (rawH θ))) i

theorem der_zero (u : Fin 7 → ℝ) : der u 0 = 1 := by simp [der]

/-- The derivative at the left knot. -/
theorem left_der (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay21 (F := Ideal) (k0_pay20 (k0_pay5 v3) m c o) (ix2 0 x) = ((der (rawD θ) i : ℝ) : EReal) := by
  unfold k0_pay21 k0_pay20 k0_pay14
  pointwise [hg, deriv v3 x θ hθ, bits_one, Nat.add_comm 1]
  refine Eq.trans ?_ (steps (der (rawD θ)) i)
  rw [der_zero, Fin.sum_univ_succ (n := 6)]
  simp [der_zero]

/-- The derivative at the right knot. -/
theorem right_der (hg : ∀ r : Fin 7, k0_pay12 (F := Ideal) m c o (ix2 r x) = ((if r.val < i.val then (1 : ℝ) else 0 : ℝ) : EReal))
    (hθ : ∀ c, v3 (ix2 x c) = ((θ c : ℝ) : EReal)) :
    k0_pay22 (F := Ideal) (k0_pay12 m c o) (k0_pay13 (k0_pay5 v3)) (k0_pay15 (k0_pay5 v3)) (ix2 0 x)
      = ((der (rawD θ) (i.val + 1) : ℝ) : EReal) := by
  unfold k0_pay22
  pointwise [hg, deriv v3 x θ hθ, deriv_next v3 x θ hθ]
  exact steps (fun k => der (rawD θ) (k + 1)) i

end Gated

section Formula

variable (v39 v67 v73 v81 v89 v93 : FVec Ideal S1x1024 .f32) (v46 v56 v61 : FVec Ideal S7x1024 .f32)
  (yc cw w ch h d0 d1 : ℝ)

theorem winv (hw : w ≠ 0) (h81 : v81 (ix2 0 x) = ((w : ℝ) : EReal)) :
    k0_pay23 (F := Ideal) v81 (ix2 0 x) = ((1 / w : ℝ) : EReal) := by
  unfold k0_pay23
  pointwise [h81, bits_one]
  exact div_real 1 w hw

theorem slope (hw : w ≠ 0) (h81 : v81 (ix2 0 x) = ((w : ℝ) : EReal)) (h89 : v89 (ix2 0 x) = ((h : ℝ) : EReal)) :
    k0_pay24 (F := Ideal) v81 v89 (ix2 0 x) = ((h / w : ℝ) : EReal) := by
  unfold k0_pay24
  pointwise [winv x v81 w hw h81, h89]
  rw [← EReal.coe_mul]; congr 1; ring

theorem position (hw : w ≠ 0) (h39 : v39 (ix2 0 x) = ((yc : ℝ) : EReal)) (h67 : v67 (ix2 0 x) = ((cw : ℝ) : EReal))
    (h81 : v81 (ix2 0 x) = ((w : ℝ) : EReal)) :
    k0_pay25 (F := Ideal) v39 v67 v81 (ix2 0 x) = ((pos yc cw w : ℝ) : EReal) := by
  unfold k0_pay25
  pointwise [winv x v81 w hw h81, h39, h67]
  rw [← EReal.coe_sub, ← EReal.coe_mul]; congr 1; unfold pos; ring

theorem position_mid (hw : w ≠ 0) (h39 : v39 (ix2 0 x) = ((yc : ℝ) : EReal)) (h67 : v67 (ix2 0 x) = ((cw : ℝ) : EReal))
    (h81 : v81 (ix2 0 x) = ((w : ℝ) : EReal)) :
    k0_pay26 (F := Ideal) v39 v67 v81 (ix2 0 x) = ((pos yc cw w * (1 - pos yc cw w) : ℝ) : EReal) := by
  unfold k0_pay26
  pointwise [position x v39 v67 v81 yc cw w hw h39 h67 h81, bits_one]
  rfl

theorem position_sq (hw : w ≠ 0) (h39 : v39 (ix2 0 x) = ((yc : ℝ) : EReal)) (h67 : v67 (ix2 0 x) = ((cw : ℝ) : EReal))
    (h81 : v81 (ix2 0 x) = ((w : ℝ) : EReal)) :
    k0_pay27 (F := Ideal) v39 v67 v81 (ix2 0 x) = ((pos yc cw w * pos yc cw w : ℝ) : EReal) := by
  unfold k0_pay27
  pointwise [position x v39 v67 v81 yc cw w hw h39 h67 h81]
  rfl

theorem den_inv (hw : w ≠ 0) (h39 : v39 (ix2 0 x) = ((yc : ℝ) : EReal)) (h67 : v67 (ix2 0 x) = ((cw : ℝ) : EReal))
    (h81 : v81 (ix2 0 x) = ((w : ℝ) : EReal)) (h89 : v89 (ix2 0 x) = ((h : ℝ) : EReal))
    (hd0 : k0_pay21 (F := Ideal) v93 (ix2 0 x) = ((d0 : ℝ) : EReal))
    (hd1 : k0_pay22 (F := Ideal) v46 v56 v61 (ix2 0 x) = ((d1 : ℝ) : EReal))
    (hden : 0 < den (pos yc cw w) (h / w) d0 d1) :
    k0_pay28 (F := Ideal) v39 v46 v56 v61 v67 v81 v89 v93 (ix2 0 x) = ((1 / den (pos yc cw w) (h / w) d0 d1 : ℝ) : EReal) := by
  unfold k0_pay28
  pointwise [hd0, hd1, position_mid x v39 v67 v81 yc cw w hw h39 h67 h81, slope x v81 v89 w h hw h81 h89, bits_one, bits_two]
  simp only [← EReal.coe_add, ← EReal.coe_sub, ← EReal.coe_mul]
  exact div_real 1 _ hden.ne'

theorem value (hw : w ≠ 0) (h39 : v39 (ix2 0 x) = ((yc : ℝ) : EReal)) (h67 : v67 (ix2 0 x) = ((cw : ℝ) : EReal))
    (h73 : v73 (ix2 0 x) = ((ch : ℝ) : EReal))
    (h81 : v81 (ix2 0 x) = ((w : ℝ) : EReal)) (h89 : v89 (ix2 0 x) = ((h : ℝ) : EReal))
    (hd0 : k0_pay21 (F := Ideal) v93 (ix2 0 x) = ((d0 : ℝ) : EReal))
    (hd1 : k0_pay22 (F := Ideal) v46 v56 v61 (ix2 0 x) = ((d1 : ℝ) : EReal))
    (hden : 0 < den (pos yc cw w) (h / w) d0 d1) :
    k0_pay29 (F := Ideal) v39 v46 v56 v61 v67 v73 v81 v89 v93 (ix2 0 x) = ((splVal yc cw w ch h d0 d1 : ℝ) : EReal) := by
  unfold k0_pay29
  pointwise [hd0, h73, h89, position_mid x v39 v67 v81 yc cw w hw h39 h67 h81, position_sq x v39 v67 v81 yc cw w hw h39 h67 h81,
    slope x v81 v89 w h hw h81 h89,
    den_inv x v39 v67 v81 v89 v93 v46 v56 v61 yc cw w h d0 d1 hw h39 h67 h81 h89 hd0 hd1 hden]
  simp only [← EReal.coe_add, ← EReal.coe_sub, ← EReal.coe_mul]
  congr 1; unfold splVal; ring

theorem logder (hw : w ≠ 0) (h39 : v39 (ix2 0 x) = ((yc : ℝ) : EReal)) (h67 : v67 (ix2 0 x) = ((cw : ℝ) : EReal))
    (h81 : v81 (ix2 0 x) = ((w : ℝ) : EReal)) (h89 : v89 (ix2 0 x) = ((h : ℝ) : EReal))
    (hd0 : k0_pay21 (F := Ideal) v93 (ix2 0 x) = ((d0 : ℝ) : EReal))
    (hd1 : k0_pay22 (F := Ideal) v46 v56 v61 (ix2 0 x) = ((d1 : ℝ) : EReal))
    (hden : 0 < den (pos yc cw w) (h / w) d0 d1) (hdl : 0 < h / w) (hnum : 0 < dnum (pos yc cw w) (h / w) d0 d1) :
    k0_pay30 (F := Ideal) v39 v46 v56 v61 v67 v81 v89 v93 (ix2 0 x) = ((splLog yc cw w h d0 d1 : ℝ) : EReal) := by
  unfold k0_pay30
  pointwise [hd0, hd1, position x v39 v67 v81 yc cw w hw h39 h67 h81, position_mid x v39 v67 v81 yc cw w hw h39 h67 h81, position_sq x v39 v67 v81 yc cw w hw h39 h67 h81,
    slope x v81 v89 w h hw h81 h89, bits_one, bits_two,
    den_inv x v39 v67 v81 v89 v93 v46 v56 v61 yc cw w h d0 d1 hw h39 h67 h81 h89 hd0 hd1 hden]
  simp only [← EReal.coe_add, ← EReal.coe_sub, ← EReal.coe_mul]
  have e : (d1 * (pos yc cw w * pos yc cw w) + 2 * (h / w) * (pos yc cw w * (1 - pos yc cw w))
      + d0 * (1 - pos yc cw w) * (1 - pos yc cw w)) = dnum (pos yc cw w) (h / w) d0 d1 := by
    unfold dnum; ring
  rw [e, log_real _ (mul_pos (mul_pos (mul_pos (mul_pos hdl hdl) hnum) (one_div_pos.2 hden)) (one_div_pos.2 hden)),
    log_split _ _ _ hdl hnum hden]
  rfl

end Formula

/-! ### The two results at one row -/

theorem pick_val (v124 : FVec Ideal S1x1024 .f32) :
    k0_pay2 (F := Ideal) (k0_pay6 v10) v124 (k0_pay31 (k0_pay6 v10)) (k0_pay32 (k0_pay6 v10)) (ix1 x)
      = Scalar.select (inside (v10 (ix1 x))) (v124 (ix2 0 x)) (v10 (ix1 x)) := by
  unfold_payloads
  pointwise [bits_three, bits_neg_three]
  rfl

theorem pick_log (v139 : FVec Ideal S1x1024 .f32) :
    k0_pay3 (F := Ideal) v139 (k0_pay31 (k0_pay6 v10)) (k0_pay32 (k0_pay6 v10)) (ix1 x)
      = Scalar.select (inside (v10 (ix1 x))) (v139 (ix2 0 x)) 0 := by
  unfold_payloads
  pointwise [bits_three, bits_neg_three]
  rfl

end Cert.KernelIdeal.Row
end
-- ==== Proof.KernelArr.lean ====
module
public import proofs.«01_k».proof.Proof.KernelRow
public import Idealize.ShloMosaic.Lib.Pipeline.ValueKit
public import Idealize.ShloMosaic.Lib.WholeRead

/-! What the kernel's two result arrays hold after the run, row by row. -/

@[expose] public section

set_option maxRecDepth 16384

namespace Cert.KernelIdeal.Arr

open Idealize.ShloMosaic Idealize.ShloMosaic.TcCoe Cert.Spline Cert.KernelIdeal Cert.KernelIdeal.Gen Cert.KernelIdeal.Row
open Idealize.SL.Sem

/-- One trip's tile of values, from the tile of parameters and the tile of points. -/
noncomputable def valTile (v3 : Vec Ideal S1024x25 .f32) (v10 : Vec Ideal S1024 .f32) : FVec Ideal S1024 .f32 :=
  k0_pay2 (k0_pay6 v10)
    (k0_pay29 (k0_pay9 v10) (k0_pay12 (k0_pay10 v3 v10) (Scalar.ofBits .f32 0x00000000#32) k0_pay11) (k0_pay13 (k0_pay5 v3))
      (k0_pay15 (k0_pay5 v3))
      (k0_pay16 (k0_pay7 v3) (k0_pay10 v3 v10) (Scalar.ofBits .f32 0x00000000#32) k0_pay11)
      (k0_pay17 (k0_pay8 v3) (k0_pay10 v3 v10) (Scalar.ofBits .f32 0x00000000#32) k0_pay11)
      (k0_pay18 (k0_pay7 v3) (k0_pay10 v3 v10) (Scalar.ofBits .f32 0x00000000#32) k0_pay11)
      (k0_pay19 (k0_pay8 v3) (k0_pay10 v3 v10) (Scalar.ofBits .f32 0x00000000#32) k0_pay11)
      (k0_pay20 (k0_pay5 v3) (k0_pay10 v3 v10) (Scalar.ofBits .f32 0x00000000#32) k0_pay11))
    (k0_pay31 (k0_pay6 v10)) (k0_pay32 (k0_pay6 v10))

/-- One trip's tile of logarithms. -/
noncomputable def logTile (v3 : Vec Ideal S1024x25 .f32) (v10 : Vec Ideal S1024 .f32) : FVec Ideal S1024 .f32 :=
  k0_pay3
    (k0_pay30 (k0_pay9 v10) (k0_pay12 (k0_pay10 v3 v10) (Scalar.ofBits .f32 0x00000000#32) k0_pay11) (k0_pay13 (k0_pay5 v3))
      (k0_pay15 (k0_pay5 v3))
      (k0_pay16 (k0_pay7 v3) (k0_pay10 v3 v10) (Scalar.ofBits .f32 0x00000000#32) k0_pay11)
      (k0_pay18 (k0_pay7 v3) (k0_pay10 v3 v10) (Scalar.ofBits .f32 0x00000000#32) k0_pay11)
      (k0_pay19 (k0_pay8 v3) (k0_pay10 v3 v10) (Scalar.ofBits .f32 0x00000000#32) k0_pay11)
      (k0_pay20 (k0_pay5 v3) (k0_pay10 v3 v10) (Scalar.ofBits .f32 0x00000000#32) k0_pay11))
    (k0_pay31 (k0_pay6 v10)) (k0_pay32 (k0_pay6 v10))

theorem valTile_apply (v3 : Vec Ideal S1024x25 .f32) (v10 : Vec Ideal S1024 .f32) (x : Fin 1024) (θ : Fin 25 → ℝ)
    (hθ : ∀ c, v3 (ix2 x c) = ((θ c : ℝ) : EReal)) : valTile v3 v10 (ix1 x) = valAt θ (v10 (ix1 x)) := by
  unfold valTile valAt
  rw [pick_val]
  obtain ⟨h0, h1⟩ := clampR_mem (v10 (ix1 x))
  obtain ⟨-, hden, -⟩ := row_pos θ _ h0 h1
  have hg := gate v3 v10 x θ hθ
  rw [value x _ _ _ _ _ _ _ _ _ (clampR (v10 (ix1 x))) _ _ _ _ _ _ (wid_pos _ _).ne' (point v10 x)
    (left_end v3 x θ _ _ _ _ hg hθ) (left_height v3 x θ _ _ _ _ hg hθ) (the_width v3 x θ _ _ _ _ hg hθ)
    (the_height v3 x θ _ _ _ _ hg hθ) (left_der v3 x θ _ _ _ _ hg hθ) (right_der v3 x θ _ _ _ _ hg hθ) hden]
  rfl

theorem logTile_apply (v3 : Vec Ideal S1024x25 .f32) (v10 : Vec Ideal S1024 .f32) (x : Fin 1024) (θ : Fin 25 → ℝ)
    (hθ : ∀ c, v3 (ix2 x c) = ((θ c : ℝ) : EReal)) : logTile v3 v10 (ix1 x) = logAt θ (v10 (ix1 x)) := by
  unfold logTile logAt
  rw [pick_log]
  obtain ⟨h0, h1⟩ := clampR_mem (v10 (ix1 x))
  obtain ⟨hdl, hden, hnum⟩ := row_pos θ _ h0 h1
  have hg := gate v3 v10 x θ hθ
  rw [logder x _ _ _ _ _ _ _ _ (clampR (v10 (ix1 x))) _ _ _ _ _ (wid_pos _ _).ne' (point v10 x)
    (left_end v3 x θ _ _ _ _ hg hθ) (the_width v3 x θ _ _ _ _ hg hθ)
    (the_height v3 x θ _ _ _ _ hg hθ) (left_der v3 x θ _ _ _ _ hg hθ) (right_der v3 x θ _ _ _ _ hg hθ) hden hdl hnum]
  rfl

section Block

variable (c : Dev nD) (i : grid0.Coords) (arg1 : Memref sig .tc .vmem S32768x25 .f32) (harg1 : arg1.IsWhole)
  (arg2 : Memref sig .tc .vmem S32768 .f32) (harg2 : arg2.IsWhole) (arg3 : Memref sig .tc .vmem S32768 .f32) (harg3 : arg3.IsWhole)
  (arg4 : Memref sig .tc .vmem S32768 .f32) (harg4 : arg4.IsWhole)

set_option maxHeartbeats 1000000 in
/-- One trip stores the two tiles over its 1024 rows. -/
theorem trip_eq (𝒱 : Variants) (bd : Option 𝒱.V) (X1 : BufTy.Contents (Elt Ideal) arg1.view.ty)
    (X2 : BufTy.Contents (Elt Ideal) arg2.view.ty) (k : Fin k0_t1_loop.trips) :
    tripL_k0_t1 (F := Ideal) 𝒱 c bd i arg1 harg1 arg2 harg2 arg3 harg3 arg4 harg4 X1 X2 k
      = ([⟨Rect.unit (k0_off2 k) S1024.size (k0_off2_inb k),
            valTile (View.readAt (Elt Ideal) arg1.view (Rect.unit (s := S32768x25) (k0_off1 k) S1024x25.size (k0_off1_inb k)).toLoadRect X1)
              (View.readAt (Elt Ideal) arg2.view (Rect.unit (s := S32768) (k0_off2 k) S1024.size (k0_off2_inb k)).toLoadRect X2)⟩],
         [⟨Rect.unit (k0_off2 k) S1024.size (k0_off2_inb k),
            logTile (View.readAt (Elt Ideal) arg1.view (Rect.unit (s := S32768x25) (k0_off1 k) S1024x25.size (k0_off1_inb k)).toLoadRect X1)
              (View.readAt (Elt Ideal) arg2.view (Rect.unit (s := S32768) (k0_off2 k) S1024.size (k0_off2_inb k)).toLoadRect X2)⟩]) := by
  unfold tripL_k0_t1 trip_k0_t1
  rfl

/-- A block's values, row by row. -/
noncomputable def blockVal (x0 : Vec Ideal S32768x25 .f32) (x1 : Vec Ideal S32768 .f32) (j : S32768.Idx) : EReal :=
  valAt (fun c => (x0 (ix2 (j 0) c)).toReal) (x1 (ix1 (j 0)))

/-- A block's logarithms, row by row. -/
noncomputable def blockLog (x0 : Vec Ideal S32768x25 .f32) (x1 : Vec Ideal S32768 .f32) (j : S32768.Idx) : EReal :=
  logAt (fun c => (x0 (ix2 (j 0) c)).toReal) (x1 (ix1 (j 0)))

/-- Row `x` of trip `k` in its block. -/
def rowOf (k : Fin k0_t1_loop.trips) (x : Fin 1024) : Fin 32768 :=
  ⟨1024 * k.val + x.val, by have := k0_t1_abs.2.1; have := k.isLt; omega⟩

theorem emb_row (k : Fin k0_t1_loop.trips) (x : Fin 1024) :
    (Rect.unit (s := S32768) (k0_off2 k) S1024.size (k0_off2_inb k)).emb (ix1 x) = ix1 (rowOf k x) := by
  funext a
  fin_cases a
  refine Fin.ext ?_
  rw [Rect.emb_apply]
  have := congrFun (k0_off2_eq k) 0
  simp [rowOf, this]

theorem read1 (x0 : Vec Ideal S32768x25 .f32) (k : Fin k0_t1_loop.trips) (x : Fin 1024) (c : Fin 25) :
    View.readAt (Elt Ideal) arg1.view (Rect.unit (s := S32768x25) (k0_off1 k) S1024x25.size (k0_off1_inb k)).toLoadRect (harg1.unread x0)
      (ix2 x c) = x0 (ix2 (rowOf k x) c) := by
  rw [harg1.readAt_unread]
  congr 1
  funext a
  fin_cases a
  · refine Fin.ext ?_
    rw [show (Rect.unit (s := S32768x25) (k0_off1 k) S1024x25.size (k0_off1_inb k)).toLoadRect.idx (ix2 x c)
      = (Rect.unit (s := S32768x25) (k0_off1 k) S1024x25.size (k0_off1_inb k)).emb (ix2 x c) from rfl, Rect.emb_apply]
    have := congrFun (k0_off1_eq k) 0
    simp [rowOf, this]
  · refine Fin.ext ?_
    rw [show (Rect.unit (s := S32768x25) (k0_off1 k) S1024x25.size (k0_off1_inb k)).toLoadRect.idx (ix2 x c)
      = (Rect.unit (s := S32768x25) (k0_off1 k) S1024x25.size (k0_off1_inb k)).emb (ix2 x c) from rfl, Rect.emb_apply]
    have := congrFun (k0_off1_eq k) 1
    simp [this]

theorem read2 (x1 : Vec Ideal S32768 .f32) (k : Fin k0_t1_loop.trips) (x : Fin 1024) :
    View.readAt (Elt Ideal) arg2.view (Rect.unit (s := S32768) (k0_off2 k) S1024.size (k0_off2_inb k)).toLoadRect (harg2.unread x1)
      (ix1 x) = x1 (ix1 (rowOf k x)) := by
  rw [harg2.readAt_unread]
  exact congrArg x1 (emb_row k x)

/-- Every store of the trips before the `n`th writes the block's values at its rows. -/
theorem pieces (𝒱 : Variants) (bd : Option 𝒱.V) (x0 : Vec Ideal S32768x25 .f32) (x1 : Vec Ideal S32768 .f32)
    (h0 : ∀ j, IsReal (x0 j)) : ∀ n : ℕ, n ≤ k0_t1_loop.trips →
    (∀ p ∈ (pb_k0_t1 (F := Ideal) 𝒱 c bd i arg1 harg1 arg2 harg2 arg3 harg3 arg4 harg4 (harg1.unread x0) (harg2.unread x1) n).1,
      ∀ x : p.1.shape.Idx, p.2 x = blockVal x0 x1 (p.1.emb x))
    ∧ (∀ p ∈ (pb_k0_t1 (F := Ideal) 𝒱 c bd i arg1 harg1 arg2 harg2 arg3 harg3 arg4 harg4 (harg1.unread x0) (harg2.unread x1) n).2,
      ∀ x : p.1.shape.Idx, p.2 x = blockLog x0 x1 (p.1.emb x))
  | 0, _ => by
    rw [pb_k0_t1.eq_1]
    exact ⟨fun p hp => absurd hp List.not_mem_nil, fun p hp => absurd hp List.not_mem_nil⟩
  | n + 1, hn => by
    obtain ⟨ih1, ih2⟩ := pieces 𝒱 bd x0 x1 h0 n (by omega)
    have hs := pb_k0_t1_succ (F := Ideal) 𝒱 c bd i arg1 harg1 arg2 harg2 arg3 harg3 arg4 harg4 (harg1.unread x0) (harg2.unread x1) ⟨n, hn⟩
    rw [trip_eq] at hs
    rw [hs]
    have hθ : ∀ (x : Fin 1024) (c : Fin 25),
        View.readAt (Elt Ideal) arg1.view (Rect.unit (s := S32768x25) (k0_off1 ⟨n, hn⟩) S1024x25.size (k0_off1_inb ⟨n, hn⟩)).toLoadRect
          (harg1.unread x0) (ix2 x c) = (((x0 (ix2 (rowOf ⟨n, hn⟩ x) c)).toReal : ℝ) : EReal) :=
      fun x c => (read1 arg1 harg1 x0 ⟨n, hn⟩ x c).trans (h0 _)
    constructor
    · intro p hp x
      rcases List.mem_cons.1 hp with rfl | hp
      · obtain ⟨x, rfl⟩ : ∃ y : Fin 1024, x = ix1 y := ⟨x 0, eq_ix1 x⟩
        refine (valTile_apply _ _ x _ (hθ x)).trans ?_
        rw [read2]
        exact (congrArg (blockVal x0 x1) (emb_row ⟨n, hn⟩ x)).symm
      · exact ih1 p hp x
    · intro p hp x
      rcases List.mem_cons.1 hp with rfl | hp
      · obtain ⟨x, rfl⟩ : ∃ y : Fin 1024, x = ix1 y := ⟨x 0, eq_ix1 x⟩
        refine (logTile_apply _ _ x _ (hθ x)).trans ?_
        rw [read2]
        exact (congrArg (blockLog x0 x1) (emb_row ⟨n, hn⟩ x)).symm
      · exact ih2 p hp x

theorem out2 (x0 : Vec Ideal S32768x25 .f32) (x1 : Vec Ideal S32768 .f32) (h0 : ∀ j, IsReal (x0 j)) :
    out0_A_2 (F := Ideal) c i arg1 harg1 arg2 harg2 arg3 harg3 arg4 harg4 x0 x1 = blockVal x0 x1 := by
  have hc := cover0_A_2 (F := Ideal) c i arg1 harg1 arg2 harg2 arg3 harg3 arg4 harg4 x0 x1
  unfold out0_A_2
  rw [View.read_writes_junk_eq_canon]
  funext y
  refine View.canon_apply_of_pieces _ _ ?_ y (hc y)
  unfold kernelRun0_A
  dsimp only
  exact (pieces c i arg1 harg1 arg2 harg2 arg3 harg3 arg4 harg4 Variants.none none x0 x1 h0 _ le_rfl).1

theorem out3 (x0 : Vec Ideal S32768x25 .f32) (x1 : Vec Ideal S32768 .f32) (h0 : ∀ j, IsReal (x0 j)) :
    out0_A_3 (F := Ideal) c i arg1 harg1 arg2 harg2 arg3 harg3 arg4 harg4 x0 x1 = blockLog x0 x1 := by
  have hc := cover0_A_3 (F := Ideal) c i arg1 harg1 arg2 harg2 arg3 harg3 arg4 harg4 x0 x1
  unfold out0_A_3
  rw [View.read_writes_junk_eq_canon]
  funext y
  refine View.canon_apply_of_pieces _ _ ?_ y (hc y)
  unfold kernelRun0_A
  dsimp only
  exact (pieces c i arg1 harg1 arg2 harg2 arg3 harg3 arg4 harg4 Variants.none none x0 x1 h0 _ le_rfl).2

end Block

/-! ### The arrays -/

variable (m : (ℓ : Loc nD τ sig) → Buf (Elt Ideal) ℓ) (ρ : Dev nD → PrngReg)

/-- The values of all rows of the arguments. -/
noncomputable def allVal (A0 : S2097152x25.Idx → EReal) (A1 : S2097152.Idx → EReal) (j : S2097152.Idx) : EReal :=
  valAt (fun c => (A0 (ix2 (j 0) c)).toReal) (A1 (ix1 (j 0)))

/-- The logarithms of all rows. -/
noncomputable def allLog (A0 : S2097152x25.Idx → EReal) (A1 : S2097152.Idx → EReal) (j : S2097152.Idx) : EReal :=
  logAt (fun c => (A0 (ix2 (j 0) c)).toReal) (A1 (ix1 (j 0)))

/-- Every window's block index at every grid point (decided). -/
theorem idx : ∀ t : Fin cfg0.grid.N, win0_0.index t = ![t.val, 0] ∧ win0_1.index t = ![t.val] ∧ win0_2.index t = ![t.val]
    ∧ win0_3.index t = ![t.val] :=
  (by decide +kernel : ∀ t : Fin grid0.N, _)

/-- Row `r` of the `t`th block, as a row of the whole arrays. -/
def rowAt (t : Fin cfg0.grid.N) (r : Fin 32768) : Fin 2097152 :=
  ⟨t.val * 32768 + r.val, by have := t.isLt; have h : cfg0.grid.N = 64 := by decide +kernel
                             omega⟩

theorem blk0 (c : Dev nD) (t : Fin cfg0.grid.N) (r : Fin 32768) (q : Fin 25) :
    iblk (F := Ideal) m c 0 t (ix2 r q) = m ((c : Thread nD τ).loc main_arg0) (ix2 (rowAt t r) q) := by
  blk_simp [iblk]
  rw [V_main_arg0 m c]
  refine congrArg _ (funext fun a => Fin.ext ?_)
  refine (Pipeline.Window.rect_emb_val win0_0 t (ix2 r q) a).trans ?_
  rw [(idx t).1]
  match a with
  | ⟨0, _⟩ => rfl
  | ⟨1, _⟩ => simp

theorem blk1 (c : Dev nD) (t : Fin cfg0.grid.N) (r : Fin 32768) :
    iblk (F := Ideal) m c 1 t (ix1 r) = m ((c : Thread nD τ).loc main_arg1) (ix1 (rowAt t r)) := by
  blk_simp [iblk]
  rw [V_main_arg1 m c]
  refine congrArg _ (funext fun a => Fin.ext ?_)
  refine (Pipeline.Window.rect_emb_val win0_1 t (ix1 r) a).trans ?_
  rw [(idx t).2.1]
  match a with
  | ⟨0, _⟩ => rfl

/-- A block of an array of reals holds reals. -/
theorem blk_real (c : Dev nD) (t : Fin cfg0.grid.N) (h0 : ∀ j, IsReal (m ((c : Thread nD τ).loc main_arg0) j))
    (j : S32768x25.Idx) : IsReal (iblk (F := Ideal) m c 0 t j) := by
  obtain ⟨r, q, rfl⟩ : ∃ (r : Fin 32768) (q : Fin 25), j = ix2 r q := ⟨j 0, j 1, eq_ix2 j⟩
  exact (congrArg IsReal (blk0 m c t r q)).mpr (h0 _)

theorem final2 (c : Dev nD) (h0 : ∀ j, IsReal (m ((c : Thread nD τ).loc main_arg0) j)) :
    (dats (F := Ideal) m 0 c).arrAt 2 cfg0.N
      = allVal (m ((c : Thread nD τ).loc main_arg0)) (m ((c : Thread nD τ).loc main_arg1)) := by
  refine (dats (F := Ideal) m 0 c).arrAt_eq_of_covers 2 _ (by decide +kernel) fun t hf y => ?_
  blk_simp
  rw [after0_2]
  unfold outsAt0
  dsimp only
  rw [out2 _ _ _ _ _ _ _ _ _ _ _ _ (blk_real m c t h0)]
  have hy : ((View.whole main_v0_0).slice (win0_2.rect t)).emb y = ix1 (rowAt t (y 0)) := by
    refine funext fun a => Fin.ext ?_
    refine (Pipeline.Window.rect_emb_val win0_2 t y a).trans ?_
    rw [(idx t).2.2.1]
    match a with
    | ⟨0, _⟩ => rfl
  rw [hy]
  exact congrArg₂ valAt (funext fun q => congrArg EReal.toReal (blk0 m c t (y 0) q)) (blk1 m c t (y 0))

theorem final3 (c : Dev nD) (h0 : ∀ j, IsReal (m ((c : Thread nD τ).loc main_arg0) j)) :
    (dats (F := Ideal) m 0 c).arrAt 3 cfg0.N
      = allLog (m ((c : Thread nD τ).loc main_arg0)) (m ((c : Thread nD τ).loc main_arg1)) := by
  refine (dats (F := Ideal) m 0 c).arrAt_eq_of_covers 3 _ (by decide +kernel) fun t hf y => ?_
  blk_simp
  rw [after0_3]
  unfold outsAt0
  dsimp only
  rw [out3 _ _ _ _ _ _ _ _ _ _ _ _ (blk_real m c t h0)]
  have hy : ((View.whole main_v0_1).slice (win0_3.rect t)).emb y = ix1 (rowAt t (y 0)) := by
    refine funext fun a => Fin.ext ?_
    refine (Pipeline.Window.rect_emb_val win0_3 t y a).trans ?_
    rw [(idx t).2.2.2]
    match a with
    | ⟨0, _⟩ => rfl
  rw [hy]
  exact congrArg₂ logAt (funext fun q => congrArg EReal.toReal (blk0 m c t (y 0) q)) (blk1 m c t (y 0))

end Cert.KernelIdeal.Arr
end
-- ==== Proof.KernelRun.lean ====
module

public import proofs.«01_k».proof.Proof.KernelArr

/-! # The kernel's whole run: what its two results hold -/

@[expose] public section

noncomputable section

namespace Cert.KernelIdeal.Arr

open Cert.KernelIdeal Cert.KernelIdeal.Gen Idealize.ShloMosaic Idealize.ShloMosaic.TcCoe Idealize.SL.Sem Cert.Spline
open Idealize.ShloMosaic.Pipeline (Dat)

variable (m : (ℓ : Loc nD τ sig) → Buf (Elt Ideal) ℓ) (ρ : Dev nD → PrngReg)

/-- The last host operation reads the values' array as a column. -/
theorem tail_v1 (c : Dev nD) :
    Pipeline.afterTail₀ cfgs (dats (F := Ideal) m) 0 (V0 m) [hostOps1] c main_v1
      = shapeCast S2097152x1 ((dats (F := Ideal) m 0 c).arrAt 2 cfg0.N) shapeCasts_S2097152_S2097152x1 := by
  unfold Pipeline.afterTail₀
  rw [show [hostOps1 (F := Ideal)].flatten
    = [StableHlo.reshape main_v0_0 main_v1 (rfl : (.f32 : EltTy) = .f32) shapeCasts_S2097152_S2097152x1] from rfl,
    StableHlo.after_cons, StableHlo.after_nil, StableHlo.reshape_result']
  exact congrArg (fun x => shapeCast S2097152x1 x shapeCasts_S2097152_S2097152x1)
    (Pipeline.withArrays_arr spec0 (by decide) c (V0 m c) (fun w => (dats (F := Ideal) m 0 c).arrAt w cfg0.N) 2)

/-- Every run of the kernel on real coefficients leaves the values and the logarithms of every row, and the arguments. -/
theorem run (h0 : ∀ (c : Dev nD) j, IsReal (m ((c : Thread nD τ).loc main_arg0) j)) :
    θ_run defs (onTc (τ := τ) (main (F := Ideal))) ⟨m, fun _ => 0, ρ⟩ fun r => ∀ c : Dev nD,
      r.2.mem ((c : Thread nD τ).loc main_v1)
        = shapeCast S2097152x1 (allVal (m ((c : Thread nD τ).loc main_arg0)) (m ((c : Thread nD τ).loc main_arg1))) shapeCasts_S2097152_S2097152x1
      ∧ r.2.mem ((c : Thread nD τ).loc main_v0_1) = allLog (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c =>
    ⟨((h c).2 main_v1 (by decide)).trans ((tail_v1 m c).trans (by rw [final2 m c (h0 c)])),
      ((h c).1 3).trans (final3 m c (h0 c)),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Arr
end
-- ==== Proof.RefOps.lean ====
module

public import proofs.«01_k».proof.Proof.Spline
public import Idealize.ShloMosaic.Lib.Pointwise
public import Idealize.ShloMosaic.Lib.ReduceAll
public import Idealize.ShloMosaic.Lib.Routing.OpsOne

/-! Host operations of the reference read at an entry: a column set to a value, a running sum along a row, one
    column taken per row, a row's maximum. Nothing here names a program. -/

@[expose] public section

namespace Cert.Spline

open Idealize.ShloMosaic Idealize.ShloMosaic.Routing

/-- Setting one column of an array: that column's entries are the update's, the others the operand's. -/
theorem set_col {α : Type} {A N : Nat} (d : ScatterDims (shape2 A N) (shape1 1) (shape1 A)) (hiw : d.insertedWindowDims = [1])
    (hsd : d.scatterDimsToOperandDims = [1]) (x0 : (shape2 A N).Idx → α) (idx : IVec (shape1 1) 32) (upd : (shape1 A).Idx → α)
    (k : Fin N) (hidx : (idx (ix1 0)).toInt = (k.val : Int)) (w : Fin A) (e : Fin N) :
    Host.scatter d (fun _ b => b) x0 idx upd (ix2 w e) = if e = k then upd (ix1 w) else x0 (ix2 w e) := by
  by_cases h : e = k
  · rw [if_pos h]
    refine scatter_set_hit d x0 idx upd _ _ (fun j hj => ?_) (ix1 w) ((lands_col d hiw hsd idx k hidx w w e).2 ⟨rfl, h⟩)
    obtain ⟨v, rfl⟩ : ∃ v : Fin A, j = ix1 v := ⟨j 0, eq_ix1 j⟩
    rw [((lands_col d hiw hsd idx k hidx v w e).1 hj).1]
  · rw [if_neg h]
    refine scatter_set_miss d x0 idx upd _ fun j hj => ?_
    obtain ⟨v, rfl⟩ : ∃ v : Fin A, j = ix1 v := ⟨j 0, eq_ix1 j⟩
    exact h ((lands_col d hiw hsd idx k hidx v w e).1 hj).2

/-- A left fold by addition is the start plus the sum. -/
theorem foldl_add_sum {n : Nat} (g : Fin n → EReal) (a : EReal) :
    (List.finRange n).foldl (fun r i => r + g i) a = a + ∑ i, g i := by
  have : ∀ (l : List (Fin n)) (a : EReal), l.foldl (fun r i => r + g i) a = a + (l.map g).sum := by
    intro l
    induction l with
    | nil => intro a; simp
    | cons x l ih => intro a; rw [List.foldl_cons, ih, List.map_cons, List.sum_cons, add_assoc]
  rw [this, ← List.ofFn_eq_map, List.sum_ofFn]

/-- A running sum along the rows of an array of eight columns. -/
theorem run_sum {R : Nat} (x : (shape2 R 8).Idx → EReal) (init : shape0.Idx → EReal) (hinit : ∀ i, init i = 0)
    (h : (shape2 R 8).ReduceWindows (![1, 8] : Fin 2 → Nat) ![1, 1] ![0, 7] ![0, 0] (shape2 R 8)) (hu : 0 < shape0.numel)
    (f : Fin 8 → ℝ) (n : Fin R) (hx : ∀ i : Fin 8, x (ix2 n i) = ((f i : ℝ) : EReal)) (j : Fin 8) :
    Host.reduceWindowAdd (F := Ideal) (φ := .f32) ![1, 8] ![1, 1] ![0, 7] ![0, 0] x init h hu (ix2 n j)
      = ((part f (j.val + 1) : ℝ) : EReal) := by
  have hn := n.isLt
  have hj := j.isLt
  have key : Host.reduceWindowAdd (F := Ideal) (φ := .f32) ![1, 8] ![1, 1] ![0, 7] ![0, 0] x init h hu (ix2 n j)
      = (List.finRange (shape2 1 8).numel).foldl (fun r i => r + (((fun q : Fin 8 => if hq : 7 ≤ j.val + q.val then f ⟨j.val + q.val - 7, by omega⟩ else 0)
          (i.cast (numel2 8)) : ℝ) : EReal)) 0 := by
    unfold Host.reduceWindowAdd
    rw [Ideal.hostReduceWindowAdd_def]
    unfold Ideal.hostReduceWindowAdd Host.reduceWindow
    dsimp only
    rw [hinit]
    refine congrArg (fun g : EReal → Fin (shape2 1 8).numel → EReal => (List.finRange (shape2 1 8).numel).foldl g 0) ?_
    funext r i
    have hw0 : ((shape2 1 8).rowMajor.symm i 0).val = 0 := by rw [symm2]; rfl
    have hw1 : ((shape2 1 8).rowMajor.symm i 1).val = i.val := by rw [symm2]; rfl
    have hi : i.val < 8 := (i.cast (numel2 8)).isLt
    refine congrArg (r + ·) ?_
    split
    · next hin =>
      have h1 := hin 1
      change 7 ≤ j.val * 1 + ((shape2 1 8).rowMajor.symm i 1).val ∧ j.val * 1 + ((shape2 1 8).rowMajor.symm i 1).val - 7 < 8 at h1
      rw [hw1] at h1
      rw [dif_pos (show 7 ≤ j.val + (i.cast (numel2 8)).val by simpa using h1.1)]
      rw [← hx]
      refine congrArg x (funext fun a => Fin.ext ?_)
      match a with
      | ⟨0, _⟩ =>
        show n.val * 1 + ((shape2 1 8).rowMajor.symm i 0).val - 0 = n.val
        rw [hw0]; omega
      | ⟨1, _⟩ =>
        show j.val * 1 + ((shape2 1 8).rowMajor.symm i 1).val - 7 = j.val + i.val - 7
        rw [hw1]; omega
    · next hin =>
      rw [dif_neg fun hle => hin fun a => by
        have hle : 7 ≤ j.val + i.val := hle
        match a with
        | ⟨0, _⟩ =>
          show 0 ≤ n.val * 1 + ((shape2 1 8).rowMajor.symm i 0).val ∧ n.val * 1 + ((shape2 1 8).rowMajor.symm i 0).val - 0 < R
          rw [hw0]; omega
        | ⟨1, _⟩ =>
          show 7 ≤ j.val * 1 + ((shape2 1 8).rowMajor.symm i 1).val ∧ j.val * 1 + ((shape2 1 8).rowMajor.symm i 1).val - 7 < 8
          rw [hw1]; omega]
      exact EReal.coe_zero.symm
  rw [key, foldl_add_sum, zero_add]
  rw [← Equiv.sum_comp (finCongr (numel2 8)).symm]
  refine Eq.trans (Finset.sum_congr rfl fun q _ => ?_) ((coe_sum (fun q : Fin 8 => if hq : 7 ≤ j.val + q.val then f ⟨j.val + q.val - 7, by omega⟩ else 0)).trans ?_)
  · rfl
  · refine congrArg _ ?_
    unfold part
    fin_cases j <;> simp [Fin.sum_univ_eight]

/-- Where row `n` of a batch of one-column takes reads its operand. -/
theorem take_apply {α : Type} {R C : Nat} (hC : 0 < C) (d : GatherDims (shape2 R C) (shape3 R 1 1) (shape2 R 1)) (h1 : d.offsetDims = [])
    (h2 : d.collapsedSliceDims = [1]) (h3 : d.operandBatchingDims = [0]) (h4 : d.startIndicesBatchingDims = [0])
    (h5 : d.startIndexMap = [1]) (h6 : d.indexVectorDim = 2) (h7 : d.sliceSizes = ![1, 1])
    (x : (shape2 R C).Idx → α) (idx : IVec (shape3 R 1 1) 32) (n : Fin R) (k : Fin C)
    (hk : idx (ix3 n (0 : Fin 1) (0 : Fin 1)) = BitVec.ofNat 32 k.val) (hlt : C < 2 ^ 31) :
    Host.gather d x idx (ix2 n (0 : Fin 1)) = x (ix2 n k) := by
  obtain ⟨od, cd, ob, sb, sm, iv, ss, wf⟩ := d
  dsimp only at h1 h2 h3 h4 h5 h6 h7
  subst h1 h2 h3 h4 h5 h6 h7
  have hkl := k.isLt
  unfold Host.gather
  refine congrArg x (funext fun a => Fin.ext ?_)
  match a with
  | ⟨0, _⟩ =>
    show GatherDims.start _ _ idx 0 + GatherDims.batchCoord _ _ 0 + GatherDims.offCoord _ _ 0 = n.val
    rw [GatherDims.start_batching _ _ _ _ (List.mem_singleton.mpr rfl),
      GatherDims.offCoord_eq_zero _ _ _ (fun h => ((GatherDims.mem_sKept _ _).mp h).2 (List.mem_singleton.mpr rfl))]
    unfold GatherDims.batchCoord
    rw [dif_pos (List.mem_singleton.mpr rfl)]
    rw [Nat.zero_add, Nat.add_zero]
    rfl
  | ⟨1, _⟩ =>
    show GatherDims.start _ _ idx 1 + GatherDims.batchCoord _ _ 1 + GatherDims.offCoord _ _ 1 = k.val
    rw [GatherDims.batchCoord_eq_zero _ _ _ (by decide : (1 : Fin 2) ∉ [(0 : Fin 2)]),
      GatherDims.offCoord_eq_zero _ _ _ (fun h => ((GatherDims.mem_sKept _ _).mp h).1 (List.mem_singleton.mpr rfl))]
    simp only [Nat.add_zero]
    unfold GatherDims.start
    rw [dif_pos (List.mem_singleton.mpr rfl)]
    refine (congrArg (fun q : (shape3 R 1 1).Idx => min (idx q).toInt.toNat (C - 1)) (?_ : _ = ix3 n (0 : Fin 1) (0 : Fin 1))).trans ?_
    · funext b; refine Fin.ext ?_
      match b with
      | ⟨0, _⟩ => rfl
      | ⟨1, _⟩ => rfl
      | ⟨2, _⟩ => rfl
    · rw [hk]
      have : (BitVec.ofNat 32 k.val).toInt = (k.val : Int) := by
        rw [BitVec.toInt_eq_toNat_of_lt] <;> rw [BitVec.toNat_ofNat, Nat.mod_eq_of_lt] <;> omega
      rw [this]; omega

/-- A row's maximum, folded from below everything over real entries of at least one column, is real. -/
theorem max_real {R C : Nat} (hC : 0 < C) (x : (shape2 R C).Idx → EReal) (init : shape0.Idx → EReal) (hi : ∀ i, init i = ⊥)
    (h : (shape2 R C).ReducesTo [1] (shape1 R)) (hu : 0 < shape0.numel) (n : Fin R) (hx : ∀ j, IsReal (x j)) :
    IsReal (Host.reduce (FloatOps.maximumf (F := Ideal) (φ := .f32)) x init h hu (ix1 n)) := by
  have key : ∀ (l : List (shape2 R C).Idx) (a : EReal), (IsReal a ∨ l ≠ []) → (a = ⊥ ∨ IsReal a) →
      IsReal (l.foldl (fun r i => FloatOps.maximumf (F := Ideal) (φ := .f32) r (x i)) a) := by
    intro l
    induction l with
    | nil => intro a h1 _; exact h1.resolve_right (fun q => q rfl)
    | cons y l ih =>
      intro a _ h2
      have hr : IsReal (max a (x y)) := by
        rcases h2 with rfl | h2
        · rw [max_eq_right bot_le]; exact hx y
        · rcases max_choice a (x y) with e | e <;> rw [e]
          · exact h2
          · exact hx y
      exact ih _ (Or.inl hr) (Or.inr hr)
  rw [Host.reduce_eq_foldl]
  refine key _ _ (Or.inr fun e => ?_) (Or.inl (hi _))
  have hm : (ix2 n (⟨0, hC⟩ : Fin C)) ∈ (((List.finRange (shape2 R C).numel).map (shape2 R C).rowMajor.symm).filter fun i => h.drop i = ix1 n) := by
    rw [List.mem_filter]
    refine ⟨List.mem_map.2 ⟨(shape2 R C).rowMajor _, List.mem_finRange _, Equiv.symm_apply_apply _ _⟩, ?_⟩
    rw [decide_eq_true_iff]
    funext a
    refine Fin.ext ?_
    match a with
    | ⟨0, _⟩ => exact Shape.ReducesTo.drop_apply_val h _ 0
  rw [e] at hm
  exact List.not_mem_nil hm

end Cert.Spline
-- ==== Proof.RefTerms.lean ====
module

public import proofs.«01_k».proof.Proof.RefOps
public import proofs.«01_k».proof.Proof.Gen.ReferenceIdeal
public import Idealize.ShloMosaic.Lib.Pipeline.Frame
public import Mathlib.Tactic.IntervalCases

/-! The reference's chains of array operations, each as one function of plain arrays, read at a row. -/

@[expose] public section

set_option maxRecDepth 16384

noncomputable section

namespace Cert.ReferenceIdeal.Rows

open Idealize.ShloMosaic Idealize.ShloMosaic.TcCoe Cert.Spline Cert.ReferenceIdeal Cert.ReferenceIdeal.Gen

/-- The exponentials of a row, shifted by the row's maximum. -/
def expo (u : FVec Ideal S2097152x8 .f32) (mx : FVec Ideal S2097152 .f32) : FVec Ideal S2097152x8 .f32 :=
  Host.exp (subf u (broadcastInDim S2097152x8 ![0, 1] bcast_S2097152x1_S2097152x8_0_1 (broadcastInDim S2097152x1 ![0] bcast_S2097152_S2097152x1_0 (maximumf (broadcastInDim S2097152 ![] bcast_S_S2097152 (constant S_ .f32 0xFF800000#32)) mx))))

theorem expo_apply (u : FVec Ideal S2097152x8 .f32) (mx : FVec Ideal S2097152 .f32) (n : Fin 2097152) (k : Fin 8) :
    expo u mx (ix2 n k) = Ideal.exp (u (ix2 n k) - max ⊥ (mx (ix1 n))) := by
  unfold expo
  pointwise [bits_neg_inf]

/-- The widths (or heights) of a row, as shares of one. -/
def share (v0 : FVec Ideal S_ .f32) (e : FVec Ideal S2097152x8 .f32) (s : FVec Ideal S2097152 .f32) : FVec Ideal S2097152x8 .f32 :=
  addf (broadcastInDim S2097152x8 ![] bcast_S_S2097152x8 v0) (mulf (broadcastInDim S2097152x8 ![] bcast_S_S2097152x8 (subf (constant S_ .f32 0x3F800000#32) (mulf v0 (constant S_ .f32 0x41000000#32)))) (Host.divf e (broadcastInDim S2097152x8 ![0, 1] bcast_S2097152x1_S2097152x8_0_1 (broadcastInDim S2097152x1 ![0] bcast_S2097152_S2097152x1_0 s))))

theorem share_apply (v0 : FVec Ideal S_ .f32) (e : FVec Ideal S2097152x8 .f32) (s : FVec Ideal S2097152 .f32) (n : Fin 2097152) (k : Fin 8) :
    share v0 e s (ix2 n k) = v0 ix0 + (((1 : ℝ) : EReal) - v0 ix0 * ((8 : ℝ) : EReal)) * Ideal.div (e (ix2 n k)) (s (ix1 n)) := by
  unfold share
  pointwise [bits_one, bits_eight]

/-- The row sums. -/
theorem sum_apply (e : FVec Ideal S2097152x8 .f32) (n : Fin 2097152) :
    Host.reduceAdd e (constant S_ .f32 0x00000000#32) reducesTo_S2097152x8_S2097152_d1 h_S_ (ix1 n) = ∑ k : Fin 8, e (ix2 n k) := by
  pointwise

/-- The knots before the two ends are pinned. -/
def line (cs : FVec Ideal S2097152x8 .f32) : FVec Ideal S2097152x9 .f32 :=
  addf (mulf (broadcastInDim S2097152x9 ![] bcast_S_S2097152x9 (constant S_ .f32 0x40C00000#32)) (concatenate S2097152x9 1 [⟨S2097152x1, (broadcastInDim S2097152x1 ![] bcast_S_S2097152x1 (constant S_ .f32 0x00000000#32))⟩, ⟨S2097152x8, cs⟩] concatenates_S2097152x1_S2097152x8_S2097152x9_d1)) (broadcastInDim S2097152x9 ![] bcast_S_S2097152x9 (constant S_ .f32 0xC0400000#32))

theorem line_zero (cs : FVec Ideal S2097152x8 .f32) (n : Fin 2097152) : line cs (ix2 n (0 : Fin 9)) = ((-3 : ℝ) : EReal) := by
  unfold line
  pointwise [bits_six, bits_neg_three]
  rw [mul_zero, zero_add]

theorem line_succ (cs : FVec Ideal S2097152x8 .f32) (n : Fin 2097152) (k : Fin 8) :
    line cs (ix2 n k.succ) = ((6 : ℝ) : EReal) * cs (ix2 n k) + ((-3 : ℝ) : EReal) := by
  unfold line
  pointwise [bits_six, bits_neg_three]
  rw [dif_neg (by simp)]
  rfl

/-- The knots, the two ends pinned. -/
def pins (x : FVec Ideal S2097152x9 .f32) : FVec Ideal S2097152x9 .f32 :=
  Host.scatter scatter_S2097152x9_S1_S2097152_0_1_1_0 (fun _ b => b) (Host.scatter scatter_S2097152x9_S1_S2097152_0_1_1_0 (fun _ b => b) x (broadcastInDim S1 ![] bcast_S_S1 (constantI S_ 32 0#32)) (broadcastInDim S2097152 ![] bcast_S_S2097152 (constant S_ .f32 0xC0400000#32))) (broadcastInDim S1 ![] bcast_S_S1 (constantI S_ 32 8#32)) (broadcastInDim S2097152 ![] bcast_S_S2097152 (constant S_ .f32 0x40400000#32))

theorem pins_apply (x : FVec Ideal S2097152x9 .f32) (n : Fin 2097152) (q : Fin 9) :
    pins x (ix2 n q) = if q = 8 then ((3 : ℝ) : EReal) else if q = 0 then ((-3 : ℝ) : EReal) else x (ix2 n q) := by
  unfold pins
  refine (set_col _ rfl rfl _ _ _ (8 : Fin 9) (by decide) n q).trans ?_
  refine if_congr Iff.rfl ?_ ((set_col _ rfl rfl _ _ _ (0 : Fin 9) (by decide) n q).trans (if_congr Iff.rfl ?_ rfl))
  · pointwise [bits_three]
  · pointwise [bits_neg_three]

/-- The running sums of a row. -/
def runs (w : FVec Ideal S2097152x8 .f32) : FVec Ideal S2097152x8 .f32 :=
  Host.reduceWindowAdd ![1, 8] ![1, 1] ![0, 7] ![0, 0] w (broadcastInDim S_ ![] bcast_S_S_ (constant S_ .f32 0x00000000#32)) reduceWindows_S2097152x8_S2097152x8_w1s1p0_0_w8s1p7_0 h_S_

theorem runs_apply (w : FVec Ideal S2097152x8 .f32) (f : Fin 8 → ℝ) (n : Fin 2097152) (hw : ∀ k : Fin 8, w (ix2 n k) = ((f k : ℝ) : EReal)) (j : Fin 8) :
    runs w (ix2 n j) = ((part f (j.val + 1) : ℝ) : EReal) :=
  run_sum w _ (fun _ => Ideal.ofBits_zero_f32) reduceWindows_S2097152x8_S2097152x8_w1s1p0_0_w8s1p7_0 h_S_ f n hw j

/-- The differences of neighbouring knots. -/
def diff (x : FVec Ideal S2097152x9 .f32) : FVec Ideal S2097152x8 .f32 :=
  subf (extractStridedSlice S2097152x8 ![0, 1] x slices_S2097152x9_S2097152x8_0_1) (extractStridedSlice S2097152x8 ![0, 0] x slices_S2097152x9_S2097152x8_0_0)

theorem diff_apply (x : FVec Ideal S2097152x9 .f32) (n : Fin 2097152) (k : Fin 8) :
    diff x (ix2 n k) = x (ix2 n k.succ) - x (ix2 n k.castSucc) := by
  unfold diff
  pointwise
  exact congrArg₂ (fun a b : Fin 9 => x (ix2 n a) - x (ix2 n b)) (Fin.ext (by simp [Nat.add_comm])) (Fin.ext rfl)

/-- The raw derivative at the two ends: its softplus is one less the smallest derivative. -/
def rawEnd (m : FVec Ideal S_ .f32) : FVec Ideal S_ .f32 :=
  Host.log (subf (Host.exp (subf (constant S_ .f32 0x3F800000#32) m)) (constant S_ .f32 0x3F800000#32))

theorem rawEnd_apply (m : FVec Ideal S_ .f32) : rawEnd m ix0 = Ideal.log (Ideal.exp (((1 : ℝ) : EReal) - m ix0) - ((1 : ℝ) : EReal)) := by
  unfold rawEnd
  pointwise [bits_one]

/-- The raw derivatives, the two ends set. -/
def ends (x : FVec Ideal S2097152x9 .f32) (s : FVec Ideal S_ .f32) : FVec Ideal S2097152x9 .f32 :=
  Host.scatter scatter_S2097152x9_S1_S2097152_0_1_1_0 (fun _ b => b) (Host.scatter scatter_S2097152x9_S1_S2097152_0_1_1_0 (fun _ b => b) x (broadcastInDim S1 ![] bcast_S_S1 (constantI S_ 32 0#32)) (broadcastInDim S2097152 ![] bcast_S_S2097152 s)) (broadcastInDim S1 ![] bcast_S_S1 (constantI S_ 32 8#32)) (broadcastInDim S2097152 ![] bcast_S_S2097152 s)

theorem ends_apply (x : FVec Ideal S2097152x9 .f32) (s : FVec Ideal S_ .f32) (n : Fin 2097152) (q : Fin 9) :
    ends x s (ix2 n q) = if q = 8 then s ix0 else if q = 0 then s ix0 else x (ix2 n q) := by
  unfold ends
  refine (set_col _ rfl rfl _ _ _ (8 : Fin 9) (by decide) n q).trans ?_
  refine if_congr Iff.rfl ?_ ((set_col _ rfl rfl _ _ _ (0 : Fin 9) (by decide) n q).trans (if_congr Iff.rfl ?_ rfl))
  · pointwise
  · pointwise

/-- The derivatives. -/
def soft (x : FVec Ideal S2097152x9 .f32) (m z : FVec Ideal S_ .f32) : FVec Ideal S2097152x9 .f32 :=
  addf (broadcastInDim S2097152x9 ![] bcast_S_S2097152x9 m) (select (cmpf .une (subf x (broadcastInDim S2097152x9 ![] bcast_S_S2097152x9 z)) (subf x (broadcastInDim S2097152x9 ![] bcast_S_S2097152x9 z))) (addf x (broadcastInDim S2097152x9 ![] bcast_S_S2097152x9 z)) (addf (maximumf x (broadcastInDim S2097152x9 ![] bcast_S_S2097152x9 z)) (Host.log1p (Host.exp (Host.negf (Host.absf (subf x (broadcastInDim S2097152x9 ![] bcast_S_S2097152x9 z))))))))

theorem soft_apply (x : FVec Ideal S2097152x9 .f32) (m z : FVec Ideal S_ .f32) (n : Fin 2097152) (q : Fin 9) (r : ℝ) (hr : x (ix2 n q) = (r : EReal))
    (hz : z ix0 = 0) (hm : m ix0 = ((1 / 1000 : ℝ) : EReal)) : soft x m z (ix2 n q) = ((1 / 1000 + softplus r : ℝ) : EReal) := by
  unfold soft
  pointwise [hr, hz, hm]
  rw [if_neg (fun h => h rfl)]
  change _ + (max _ _ + Ideal.log1p (Ideal.exp (-(max (r : EReal) (-(r : EReal)))))) = _
  rw [abs_real, ← EReal.coe_neg, Ideal.exp_coe, log1p_real _ (Real.exp_pos _), ← EReal.coe_zero, coe_max, ← EReal.coe_add, ← EReal.coe_add]
  rfl

theorem ofBool_decide_one {p : Prop} [Decidable p] : BitVec.ofBool (decide p) = 1#1 ↔ p := by
  by_cases h : p <;> simp [h]

/-- How many knots lie at or below a row's point. -/
def count (yc : FVec Ideal S2097152 .f32) (x : FVec Ideal S2097152x9 .f32) : IVec S2097152 32 :=
  Host.reduce IntOp.addi (extui 32 (cmpf .oge (broadcastInDim S2097152x9 ![0, 1] bcast_S2097152x1_S2097152x9_0_1 (broadcastInDim S2097152x1 ![0] bcast_S2097152_S2097152x1_0 yc)) x) natLt_1_32) (constantI S_ 32 0#32) reducesTo_S2097152x9_S2097152_d1 h_S_

theorem count_apply (yc : FVec Ideal S2097152 .f32) (x : FVec Ideal S2097152x9 .f32) (n : Fin 2097152) (Q : ℕ → Prop) [DecidablePred Q]
    (hQ : ∀ q : Fin 9, x (ix2 n q) ≤ yc (ix1 n) ↔ Q q.val) : count yc x (ix1 n) = BitVec.ofNat 32 (Nat.count Q 9) := by
  refine Routing.reduce_count (by decide) _ _ _ _ n Q fun q => ?_
  rw [← hQ q]
  pointwise
  exact ofBool_decide_one

/-- The bin from the count. -/
def clip (c : IVec S2097152 32) : IVec S2097152 32 :=
  minsi (broadcastInDim S2097152 ![] bcast_S_S2097152 (id (constantI S_ 32 7#32))) (maxsi (broadcastInDim S2097152 ![] bcast_S_S2097152 (id (constantI S_ 32 0#32))) (subi c (broadcastInDim S2097152 ![] bcast_S_S2097152 (constantI S_ 32 1#32))))

theorem clip_apply (c : IVec S2097152 32) (n : Fin 2097152) (b : ℕ) (hb : b ≤ 8) (hc : c (ix1 n) = BitVec.ofNat 32 (b + 1)) :
    clip c (ix1 n) = BitVec.ofNat 32 (min 7 b) := by
  unfold clip
  pointwise [hc]
  change IntOp.minsi 7#32 (IntOp.maxsi 0#32 (IntOp.subi (BitVec.ofNat 32 (b + 1)) 1#32)) = _
  interval_cases b <;> decide

/-- An index column as the taking functions want it, negative ones counted from the end. -/
def wrap9 (v : IVec S2097152x1 32) : IVec S2097152x1x1 32 :=
  shapeCast S2097152x1x1 (select (cmpi .slt v (broadcastInDim S2097152x1 ![] bcast_S_S2097152x1 (constantI S_ 32 0#32))) (addi v (broadcastInDim S2097152x1 ![] bcast_S_S2097152x1 (constantI S_ 32 9#32))) v) shapeCasts_S2097152x1_S2097152x1x1
def wrap8 (v : IVec S2097152x1 32) : IVec S2097152x1x1 32 :=
  shapeCast S2097152x1x1 (select (cmpi .slt v (broadcastInDim S2097152x1 ![] bcast_S_S2097152x1 (constantI S_ 32 0#32))) (addi v (broadcastInDim S2097152x1 ![] bcast_S_S2097152x1 (constantI S_ 32 8#32))) v) shapeCasts_S2097152x1_S2097152x1x1

theorem wrap9_apply (v : IVec S2097152x1 32) (n : Fin 2097152) (b : ℕ) (hb : b ≤ 8) (hv : v (ix2 n (0 : Fin 1)) = BitVec.ofNat 32 b) :
    wrap9 v (ix3 n (0 : Fin 1) (0 : Fin 1)) = BitVec.ofNat 32 b := by
  unfold wrap9
  pointwise
  rw [hv, Routing.wrap_of_lt]
  rw [BitVec.toNat_ofNat, Nat.mod_eq_of_lt] <;> omega
theorem wrap8_apply (v : IVec S2097152x1 32) (n : Fin 2097152) (b : ℕ) (hb : b ≤ 7) (hv : v (ix2 n (0 : Fin 1)) = BitVec.ofNat 32 b) :
    wrap8 v (ix3 n (0 : Fin 1) (0 : Fin 1)) = BitVec.ofNat 32 b := by
  unfold wrap8
  pointwise
  rw [hv, Routing.wrap_of_lt]
  rw [BitVec.toNat_ofNat, Nat.mod_eq_of_lt] <;> omega

/-- One column per row of an array. -/
def take9 (x : FVec Ideal S2097152x9 .f32) (i : IVec S2097152x1x1 32) : FVec Ideal S2097152 .f32 :=
  shapeCast S2097152 (select (Host.reduce IntOp.andi (andi (cmpi .sge i (broadcastInDim S2097152x1x1 ![] bcast_S_S2097152x1x1 (constantI S_ 32 0#32))) (cmpi .sle i (broadcastInDim S2097152x1x1 ![0, 1, 2] bcast_S1x1x1_S2097152x1x1_0_1_2 (broadcastInDim S1x1x1 ![2] bcast_S1_S1x1x1_2 (constantI S1 32 8#32))))) (constantI S_ 1 1#1) reducesTo_S2097152x1x1_S2097152x1_d2 h_S_) (Host.gather gather_S2097152x9_S2097152x1x1_S2097152x1_n_1_0_0_1_2_11 x i) (broadcastInDim S2097152x1 ![] bcast_S_S2097152x1 (constant S_ .f32 0x7FC00000#32))) shapeCasts_S2097152x1_S2097152
def take8 (x : FVec Ideal S2097152x8 .f32) (i : IVec S2097152x1x1 32) : FVec Ideal S2097152 .f32 :=
  shapeCast S2097152 (select (Host.reduce IntOp.andi (andi (cmpi .sge i (broadcastInDim S2097152x1x1 ![] bcast_S_S2097152x1x1 (constantI S_ 32 0#32))) (cmpi .sle i (broadcastInDim S2097152x1x1 ![0, 1, 2] bcast_S1x1x1_S2097152x1x1_0_1_2 (broadcastInDim S1x1x1 ![2] bcast_S1_S1x1x1_2 (constantI S1 32 7#32))))) (constantI S_ 1 1#1) reducesTo_S2097152x1x1_S2097152x1_d2 h_S_) (Host.gather gather_S2097152x8_S2097152x1x1_S2097152x1_n_1_0_0_1_2_11 x i) (broadcastInDim S2097152x1 ![] bcast_S_S2097152x1 (constant S_ .f32 0x7FC00000#32))) shapeCasts_S2097152x1_S2097152

theorem take9_apply (x : FVec Ideal S2097152x9 .f32) (i : IVec S2097152x1x1 32) (n : Fin 2097152) (b : Fin 9)
    (hi : i (ix3 n (0 : Fin 1) (0 : Fin 1)) = BitVec.ofNat 32 b.val) : take9 x i (ix1 n) = x (ix2 n b) := by
  have hm : IntOp.andi (IntOp.andi (IntOp.cmpi CmpIPredicate.sge (i (ix3 n (0 : Fin 1) (0 : Fin 1))) 0#32)
      (IntOp.cmpi CmpIPredicate.sle (i (ix3 n (0 : Fin 1) (0 : Fin 1))) 8#32)) 1#1 = 1#1 := by
    rw [hi]
    fin_cases b <;> decide
  unfold take9
  pointwise
  rw [show (Finset.univ : Finset (Fin 1)) = {0} from rfl, Finset.fold_singleton]
  rw [hm]
  exact take_apply (by decide) _ rfl rfl rfl rfl rfl rfl rfl x i n b hi (by decide)

theorem take8_apply (x : FVec Ideal S2097152x8 .f32) (i : IVec S2097152x1x1 32) (n : Fin 2097152) (b : Fin 8)
    (hi : i (ix3 n (0 : Fin 1) (0 : Fin 1)) = BitVec.ofNat 32 b.val) : take8 x i (ix1 n) = x (ix2 n b) := by
  have hm : IntOp.andi (IntOp.andi (IntOp.cmpi CmpIPredicate.sge (i (ix3 n (0 : Fin 1) (0 : Fin 1))) 0#32)
      (IntOp.cmpi CmpIPredicate.sle (i (ix3 n (0 : Fin 1) (0 : Fin 1))) 7#32)) 1#1 = 1#1 := by
    rw [hi]
    fin_cases b <;> decide
  unfold take8
  pointwise
  rw [show (Finset.univ : Finset (Fin 1)) = {0} from rfl, Finset.fold_singleton]
  rw [hm]
  exact take_apply (by decide) _ rfl rfl rfl rfl rfl rfl rfl x i n b hi (by decide)

end Cert.ReferenceIdeal.Rows
end
-- ==== Proof.RefRow.lean ====
module

public import proofs.«01_k».proof.Proof.RefTerms
public import proofs.«01_k».proof.Proof.Gen.ReferenceIdeal.Run

/-! The reference's named terms read at a row, as the spline's quantities of that row. -/

@[expose] public section

set_option maxRecDepth 16384

noncomputable section

namespace Cert.ReferenceIdeal.Rows

open Idealize.ShloMosaic Idealize.ShloMosaic.TcCoe Cert.Spline Cert.ReferenceIdeal Cert.ReferenceIdeal.Gen Cert.ReferenceIdeal.Value

/-! ### One row, over plain arrays -/

/-- A width from the exponentials shifted by any real. -/
theorem wid_shift (u : Fin 8 → ℝ) (M : ℝ) (k : Fin 8) :
    1 / 1000 + (1 - 1 / 1000 * 8) * (Real.exp (u k - M) / ∑ j, Real.exp (u j - M)) = wid u k / 6 := by
  have h : (∑ j, Real.exp (u j - M)) = (∑ j, Real.exp (u j)) * Real.exp (-M) := by
    rw [Finset.sum_mul]
    exact Finset.sum_congr rfl fun j _ => by rw [← Real.exp_add]; rfl
  have hs := sum_exp_pos u
  have hM := Real.exp_pos (-M)
  rw [h, show u k - M = u k + -M from rfl, Real.exp_add, mul_div_mul_right _ _ hM.ne']
  unfold wid
  field_simp
  ring

/-- The nine knots of a side, from its raw values. -/
theorem knots_apply (v0 : FVec Ideal S_ .f32) (hv0 : v0 ix0 = ((1 / 1000 : ℝ) : EReal)) (u : FVec Ideal S2097152x8 .f32)
    (mx : FVec Ideal S2097152 .f32) (n : Fin 2097152) (ur : Fin 8 → ℝ) (hu : ∀ k, u (ix2 n k) = ((ur k : ℝ) : EReal))
    (hmx : IsReal (mx (ix1 n))) (q : Fin 9) :
    pins (line (runs (share v0 (expo u mx) (Host.reduceAdd (expo u mx) (constant S_ .f32 0x00000000#32) reducesTo_S2097152x8_S2097152_d1 h_S_))))
      (ix2 n q) = ((part (wid ur) q.val - 3 : ℝ) : EReal) := by
  obtain ⟨M, hM⟩ : ∃ M : ℝ, mx (ix1 n) = (M : EReal) := ⟨_, hmx⟩
  have he : ∀ k, expo u mx (ix2 n k) = ((Real.exp (ur k - M) : ℝ) : EReal) := fun k => by
    rw [expo_apply, hu, hM, max_eq_right bot_le, ← EReal.coe_sub, Ideal.exp_coe]
  have hs : Host.reduceAdd (expo u mx) (constant S_ .f32 0x00000000#32) reducesTo_S2097152x8_S2097152_d1 h_S_ (ix1 n)
      = ((∑ k, Real.exp (ur k - M) : ℝ) : EReal) := by
    rw [sum_apply, ← coe_sum]
    exact Finset.sum_congr rfl fun k _ => he k
  have hsh : ∀ k, share v0 (expo u mx) (Host.reduceAdd (expo u mx) (constant S_ .f32 0x00000000#32) reducesTo_S2097152x8_S2097152_d1 h_S_) (ix2 n k)
      = ((wid ur k / 6 : ℝ) : EReal) := fun k => by
    rw [share_apply, hv0, he, hs, div_real _ _ (sum_exp_pos fun k => ur k - M).ne', ← EReal.coe_mul, ← EReal.coe_sub, ← EReal.coe_mul, ← EReal.coe_add,
      wid_shift]
  have h6 : ∀ k : ℕ, part (fun k => wid ur k / 6) k = part (wid ur) k / 6 := fun k => by
    unfold part
    rw [Finset.sum_div]
    exact Finset.sum_congr rfl fun j _ => by split <;> simp
  rw [pins_apply]
  split
  · next h => subst h; rw [show ((8 : Fin 9).val) = 8 from rfl, part_eight, wid_total]; norm_num
  · split
    · next h => subst h; rw [show ((0 : Fin 9).val) = 0 from rfl, part_zero]; norm_num
    · next h8 h0 =>
      obtain ⟨k, rfl⟩ := Fin.exists_succ_eq.2 h0
      rw [line_succ, runs_apply _ (fun k => wid ur k / 6) n hsh k, h6, ← EReal.coe_mul, ← EReal.coe_add]
      refine congrArg _ ?_
      rw [Fin.val_succ]
      ring

/-- The differences of knots are the widths. -/
theorem diff_knots (x : FVec Ideal S2097152x9 .f32) (n : Fin 2097152) (w : Fin 8 → ℝ)
    (hx : ∀ q : Fin 9, x (ix2 n q) = ((part w q.val - 3 : ℝ) : EReal)) (k : Fin 8) : diff x (ix2 n k) = ((w k : ℝ) : EReal) := by
  rw [diff_apply, hx, hx, ← EReal.coe_sub]
  refine congrArg _ ?_
  rw [Fin.val_succ, Fin.val_castSucc, part_succ]
  ring

/-- The bin of a row. -/
theorem clip_count (yc : FVec Ideal S2097152 .f32) (x : FVec Ideal S2097152x9 .f32) (n : Fin 2097152) (w : Fin 8 → ℝ) (hw : ∀ k, 0 < w k)
    (hx : ∀ q : Fin 9, x (ix2 n q) = ((part w q.val - 3 : ℝ) : EReal)) (t : ℝ) (ht : yc (ix1 n) = (t : EReal)) (h0 : -3 ≤ t) :
    clip (count yc x) (ix1 n) = BitVec.ofNat 32 (bin8 w (t + 3)).val := by
  classical
  obtain ⟨c, hc, hb⟩ := count_nine w hw (t + 3) (by linarith)
  have hcnt : count yc x (ix1 n) = BitVec.ofNat 32 (c + 1) := by
    rw [count_apply yc x n (fun k => part w k ≤ t + 3) fun q => by
      rw [hx, ht, EReal.coe_le_coe_iff]
      constructor <;> intro h <;> linarith]
    refine congrArg _ (Eq.trans ?_ hc)
    simp only [Nat.count_succ, Nat.count_zero, Fin.sum_univ_succ, Fin.val_zero, Fin.val_succ]
    simp [add_assoc]
  have h9 : c ≤ 8 := by
    have : (∑ k : Fin 9, if part w k.val ≤ t + 3 then 1 else 0) ≤ ∑ k : Fin 9, 1 := Finset.sum_le_sum fun k _ => by split <;> simp
    rw [hc] at this
    have h9 : c + 1 ≤ 9 := by simpa using this
    omega
  rw [clip_apply _ n c h9 hcnt, hb]
  rfl

/-- The derivatives. -/
theorem ders_apply (x : FVec Ideal S2097152x9 .f32) (m z : FVec Ideal S_ .f32) (n : Fin 2097152) (d : Fin 7 → ℝ)
    (hx : ∀ k : Fin 7, x (ix2 n k.castSucc.succ) = ((d k : ℝ) : EReal)) (hz : z ix0 = 0) (hm : m ix0 = ((1 / 1000 : ℝ) : EReal)) (q : Fin 9) :
    soft (ends x (rawEnd m)) m z (ix2 n q) = ((der d q.val : ℝ) : EReal) := by
  have hend : rawEnd m ix0 = ((Real.log (Real.exp (1 - 1 / 1000) - 1) : ℝ) : EReal) := by
    have : 0 < Real.exp (1 - 1 / 1000) - 1 := by
      have := Real.add_one_lt_exp (x := (1 - 1 / 1000 : ℝ)) (by norm_num)
      linarith
    rw [rawEnd_apply, hm, ← EReal.coe_sub, Ideal.exp_coe, ← EReal.coe_sub, log_real _ this]
  have one : (1 : ℝ) / 1000 + softplus (Real.log (Real.exp (1 - 1 / 1000) - 1)) = 1 := by rw [softplus_end]; norm_num
  by_cases hq : q = 8 ∨ q = 0
  · have hd : der d q.val = 1 := by
      unfold der
      rw [dif_neg]
      rcases hq with rfl | rfl <;> decide
    rw [soft_apply _ m z n q _ (by
      rw [ends_apply]
      rcases hq with rfl | rfl
      · rw [if_pos rfl, hend]
      · rw [if_neg (by decide), if_pos rfl, hend]) hz hm, one, hd]
  · obtain ⟨h8, h0⟩ := not_or.1 hq
    obtain ⟨k, rfl⟩ : ∃ k : Fin 7, q = k.castSucc.succ := ⟨⟨q.val - 1, by omega⟩, Fin.ext (by simp; omega)⟩
    rw [soft_apply _ m z n _ (d k) (by rw [ends_apply, if_neg h8, if_neg h0, hx]) hz hm]
    refine congrArg _ ?_
    unfold der
    rw [dif_pos ⟨by simp, by simp⟩]
    simp

/-- One column of a vector of bins. -/
def bcol (v : IVec S2097152 32) : IVec S2097152x1 32 := broadcastInDim S2097152x1 ![0] bcast_S2097152_S2097152x1_0 v

theorem bcol_apply (v : IVec S2097152 32) (n : Fin 2097152) : bcol v (ix2 n (0 : Fin 1)) = v (ix1 n) := by
  unfold bcol
  pointwise

/-- The bins after. -/
def next (v : IVec S2097152 32) : IVec S2097152 32 := addi v (broadcastInDim S2097152 ![] bcast_S_S2097152 (constantI S_ 32 1#32))

theorem next_apply (v : IVec S2097152 32) (n : Fin 2097152) (b : Fin 8) (hv : v (ix1 n) = BitVec.ofNat 32 b.val) :
    next v (ix1 n) = BitVec.ofNat 32 (b.val + 1) := by
  unfold next
  pointwise [hv]
  fin_cases b <;> decide

/-- The bins' entries among nine columns, and among eight. -/
theorem take9_bin (x : FVec Ideal S2097152x9 .f32) (v : IVec S2097152 32) (n : Fin 2097152) (b : Fin 9) (hv : v (ix1 n) = BitVec.ofNat 32 b.val) :
    take9 x (wrap9 (bcol v)) (ix1 n) = x (ix2 n b) :=
  take9_apply x _ n b (wrap9_apply _ n b.val (by omega) ((bcol_apply v n).trans hv))
theorem take8_bin (x : FVec Ideal S2097152x8 .f32) (v : IVec S2097152 32) (n : Fin 2097152) (b : Fin 8) (hv : v (ix1 n) = BitVec.ofNat 32 b.val) :
    take8 x (wrap8 (bcol v)) (ix1 n) = x (ix2 n b) :=
  take8_apply x _ n b (wrap8_apply _ n b.val (by omega) ((bcol_apply v n).trans hv))

/-- The position in the bin. -/
def place (yc a w : FVec Ideal S2097152 .f32) : FVec Ideal S2097152 .f32 := Host.divf (subf yc a) w

theorem place_apply (yc a w : FVec Ideal S2097152 .f32) (n : Fin 2097152) (ry ra rw : ℝ) (hy : yc (ix1 n) = (ry : EReal))
    (ha : a (ix1 n) = (ra : EReal)) (hw : w (ix1 n) = (rw : EReal)) (h0 : 0 < rw) : place yc a w (ix1 n) = ((pos ry ra rw : ℝ) : EReal) := by
  unfold place
  pointwise [hy, ha, hw]
  rw [← EReal.coe_sub, div_real _ _ h0.ne']
  rfl

/-- One less the position. -/
def rest (t : FVec Ideal S2097152 .f32) : FVec Ideal S2097152 .f32 := subf (broadcastInDim S2097152 ![] bcast_S_S2097152 (constant S_ .f32 0x3F800000#32)) t

theorem rest_apply (t : FVec Ideal S2097152 .f32) (n : Fin 2097152) (rt : ℝ) (ht : t (ix1 n) = (rt : EReal)) : rest t (ix1 n) = ((1 - rt : ℝ) : EReal) := by
  unfold rest
  pointwise [ht, bits_one]
  rw [← EReal.coe_sub]

/-- The position times one less it. -/
theorem mul_rest_apply (t : FVec Ideal S2097152 .f32) (n : Fin 2097152) (rt : ℝ) (ht : t (ix1 n) = (rt : EReal)) :
    mulf t (rest t) (ix1 n) = ((rt * (1 - rt) : ℝ) : EReal) := by
  have h := rest_apply t n rt ht
  pointwise [ht, h]
  rw [← EReal.coe_mul]

/-- The denominator. -/
def under (dl d0 d1 p : FVec Ideal S2097152 .f32) : FVec Ideal S2097152 .f32 :=
  addf dl (mulf (subf (addf d0 d1) (mulf (broadcastInDim S2097152 ![] bcast_S_S2097152 (constant S_ .f32 0x40000000#32)) dl)) p)

theorem under_apply (dl d0 d1 p : FVec Ideal S2097152 .f32) (n : Fin 2097152) (rl r0 r1 rt : ℝ) (hl : dl (ix1 n) = (rl : EReal))
    (h0 : d0 (ix1 n) = (r0 : EReal)) (h1 : d1 (ix1 n) = (r1 : EReal)) (hp : p (ix1 n) = ((rt * (1 - rt) : ℝ) : EReal)) :
    under dl d0 d1 p (ix1 n) = ((den rt rl r0 r1 : ℝ) : EReal) := by
  unfold under
  pointwise [hl, h0, h1, hp, bits_two]
  simp only [← EReal.coe_mul, ← EReal.coe_add, ← EReal.coe_sub]
  rfl

/-- The first result, before its last reshape. -/
def value (c : IVec S2097152 1) (ch h dl t d0 p dn y : FVec Ideal S2097152 .f32) : FVec Ideal S2097152 .f32 :=
  select c (addf ch (Host.divf (mulf h (addf (mulf dl (mulf t t)) (mulf d0 p))) dn)) y

theorem value_apply (c : IVec S2097152 1) (ch h dl t d0 p dn y : FVec Ideal S2097152 .f32) (n : Fin 2097152) (rc rh rl rt r0 rn : ℝ)
    (hc : ch (ix1 n) = (rc : EReal)) (hh : h (ix1 n) = (rh : EReal)) (hl : dl (ix1 n) = (rl : EReal)) (ht : t (ix1 n) = (rt : EReal))
    (h0 : d0 (ix1 n) = (r0 : EReal)) (hp : p (ix1 n) = ((rt * (1 - rt) : ℝ) : EReal)) (hn : dn (ix1 n) = (rn : EReal)) (hpos : 0 < rn) :
    value c ch h dl t d0 p dn y (ix1 n)
      = Scalar.select (c (ix1 n)) ((rc + (rh * (rl * (rt * rt) + r0 * (rt * (1 - rt)))) / rn : ℝ) : EReal) (y (ix1 n)) := by
  unfold value
  pointwise [hc, hh, hl, ht, h0, hp, hn]
  simp only [← EReal.coe_mul, ← EReal.coe_add, ← EReal.coe_sub, div_real _ _ hpos.ne']

/-- The second result. -/
def logd (c : IVec S2097152 1) (dl d1 t p d0 o dn : FVec Ideal S2097152 .f32) : FVec Ideal S2097152 .f32 :=
  select c (subf (Host.log (mulf (mulf dl dl) (addf (addf (mulf d1 (mulf t t)) (mulf (mulf (broadcastInDim S2097152 ![] bcast_S_S2097152 (constant S_ .f32 0x40000000#32)) dl) p)) (mulf d0 (mulf o o))))) (mulf (broadcastInDim S2097152 ![] bcast_S_S2097152 (constant S_ .f32 0x40000000#32)) (Host.log dn))) (broadcastInDim S2097152 ![] bcast_S_S2097152 (id (constant S_ .f32 0x00000000#32)))

theorem logd_apply (c : IVec S2097152 1) (dl d1 t p d0 o dn : FVec Ideal S2097152 .f32) (n : Fin 2097152) (rl r1 rt r0 rn : ℝ)
    (hl : dl (ix1 n) = (rl : EReal)) (h1 : d1 (ix1 n) = (r1 : EReal)) (ht : t (ix1 n) = (rt : EReal))
    (hp : p (ix1 n) = ((rt * (1 - rt) : ℝ) : EReal)) (h0 : d0 (ix1 n) = (r0 : EReal)) (ho : o (ix1 n) = ((1 - rt : ℝ) : EReal))
    (hn : dn (ix1 n) = (rn : EReal)) (hlpos : 0 < rl) (hnum : 0 < dnum rt rl r0 r1) (hpos : 0 < rn) :
    logd c dl d1 t p d0 o dn (ix1 n)
      = Scalar.select (c (ix1 n)) ((Real.log ((rl * rl) * dnum rt rl r0 r1) - 2 * Real.log rn : ℝ) : EReal) 0 := by
  have hm : 0 < (rl * rl) * dnum rt rl r0 r1 := mul_pos (mul_pos hlpos hlpos) hnum
  unfold logd
  pointwise [hl, h1, ht, hp, h0, ho, hn, bits_two, id_eq]
  simp only [← EReal.coe_mul, ← EReal.coe_add, log_real _ hpos]
  rw [show rl * rl * (r1 * (rt * rt) + 2 * rl * (rt * (1 - rt)) + r0 * ((1 - rt) * (1 - rt))) = (rl * rl) * dnum rt rl r0 r1 from rfl,
    log_real _ hm, ← EReal.coe_sub]

/-- Whether the point is in [-3, 3]. -/
def mid (y : FVec Ideal S2097152 .f32) : IVec S2097152 1 :=
  andi (cmpf .oge y (broadcastInDim S2097152 ![] bcast_S_S2097152 (constant S_ .f32 0xC0400000#32))) (cmpf .ole y (broadcastInDim S2097152 ![] bcast_S_S2097152 (constant S_ .f32 0x40400000#32)))

theorem mid_apply (y : FVec Ideal S2097152 .f32) (n : Fin 2097152) : mid y (ix1 n) = inside (y (ix1 n)) := by
  unfold mid
  pointwise [bits_neg_three, bits_three]
  rfl

/-- The point moved into [-3, 3]. -/
def clamp (y : FVec Ideal S2097152 .f32) : FVec Ideal S2097152 .f32 :=
  minimumf (broadcastInDim S2097152 ![] bcast_S_S2097152 (id (constant S_ .f32 0x40400000#32))) (maximumf (broadcastInDim S2097152 ![] bcast_S_S2097152 (id (constant S_ .f32 0xC0400000#32))) y)

theorem clamp_apply (y : FVec Ideal S2097152 .f32) (n : Fin 2097152) : clamp y (ix1 n) = ((clampR (y (ix1 n)) : ℝ) : EReal) := by
  unfold clamp
  pointwise [bits_neg_three, bits_three, id_eq]
  exact (coe_clampR _).symm

/-- The least width: 1/1000. -/
def least : FVec Ideal S_ .f32 := Host.divf (constant S_ .f32 0x3F800000#32) (constant S_ .f32 0x447A0000#32)

theorem least_apply : least ix0 = ((1 / 1000 : ℝ) : EReal) := by
  unfold least
  pointwise [bits_one, bits_thousand]
  exact div_real _ _ (by norm_num)

/-- The raw widths, the raw heights and the raw derivatives. -/
def colsW (a : FVec Ideal S2097152x25 .f32) : FVec Ideal S2097152x8 .f32 := extractStridedSlice S2097152x8 ![0, 0] a slices_S2097152x25_S2097152x8_0_0
def colsH (a : FVec Ideal S2097152x25 .f32) : FVec Ideal S2097152x8 .f32 := extractStridedSlice S2097152x8 ![0, 8] a slices_S2097152x25_S2097152x8_0_8
def colsD (a : FVec Ideal S2097152x25 .f32) : FVec Ideal S2097152x9 .f32 := extractStridedSlice S2097152x9 ![0, 16] a slices_S2097152x25_S2097152x9_0_16

theorem colsW_apply (a : FVec Ideal S2097152x25 .f32) (n : Fin 2097152) (k : Fin 8) : colsW a (ix2 n k) = a (ix2 n ⟨k.val, by omega⟩) := by
  unfold colsW
  pointwise
theorem colsH_apply (a : FVec Ideal S2097152x25 .f32) (n : Fin 2097152) (k : Fin 8) : colsH a (ix2 n k) = a (ix2 n ⟨8 + k.val, by omega⟩) := by
  unfold colsH
  pointwise
theorem colsD_apply (a : FVec Ideal S2097152x25 .f32) (n : Fin 2097152) (k : Fin 7) :
    colsD a (ix2 n k.castSucc.succ) = a (ix2 n ⟨17 + k.val, by omega⟩) := by
  unfold colsD
  pointwise
  exact congrArg (fun q => a (ix2 n q)) (Fin.ext (by simp; omega))

/-- One row of both results, from the parameters and the points. -/
theorem row (a : FVec Ideal S2097152x25 .f32) (y : FVec Ideal S2097152 .f32) (mw mh : FVec Ideal S2097152 .f32) (z : FVec Ideal S_ .f32)
    (kw kh : FVec Ideal S2097152x9 .f32) (dw dh : FVec Ideal S2097152x8 .f32) (ds : FVec Ideal S2097152x9 .f32) (v : IVec S2097152 32)
    (dl d0 d1 t dn : FVec Ideal S2097152 .f32) (n : Fin 2097152)
    (ha : ∀ k, IsReal (a (ix2 n k))) (hmw : IsReal (mw (ix1 n))) (hmh : IsReal (mh (ix1 n))) (hz : z ix0 = 0)
    (hkw : kw = pins (line (runs (share least (expo (colsW a) mw) (Host.reduceAdd (expo (colsW a) mw) (constant S_ .f32 0x00000000#32) reducesTo_S2097152x8_S2097152_d1 h_S_)))))
    (hkh : kh = pins (line (runs (share least (expo (colsH a) mh) (Host.reduceAdd (expo (colsH a) mh) (constant S_ .f32 0x00000000#32) reducesTo_S2097152x8_S2097152_d1 h_S_)))))
    (hdw : dw = diff kw) (hdh : dh = diff kh) (hds : ds = soft (ends (colsD a) (rawEnd least)) least z)
    (hv : v = clip (count (clamp y) kw))
    (hdl : dl = take8 (Host.divf dh dw) (wrap8 (bcol v)))
    (hd0 : d0 = take9 ds (wrap9 (bcol v))) (hd1 : d1 = take9 ds (wrap9 (bcol (next v))))
    (ht : t = place (clamp y) (take9 kw (wrap9 (bcol v))) (take8 dw (wrap8 (bcol v))))
    (hdn : dn = under dl d0 d1 (mulf t (rest t))) :
    value (mid y) (take9 kh (wrap9 (bcol v))) (take8 dh (wrap8 (bcol v))) dl t d0 (mulf t (rest t)) dn y (ix1 n)
        = valAt (fun k => (a (ix2 n k)).toReal) (y (ix1 n))
    ∧ logd (mid y) dl d1 t (mulf t (rest t)) d0 (rest t) dn (ix1 n) = logAt (fun k => (a (ix2 n k)).toReal) (y (ix1 n)) := by
  set th : Fin 25 → ℝ := fun k => (a (ix2 n k)).toReal with hth
  set yc : ℝ := clampR (y (ix1 n)) with hyc
  have hy : clamp y (ix1 n) = (yc : EReal) := clamp_apply y n
  have hm := clampR_mem (y (ix1 n))
  have hKW : ∀ q : Fin 9, kw (ix2 n q) = ((part (wid (rawW th)) q.val - 3 : ℝ) : EReal) := fun q => by
    rw [hkw]
    exact knots_apply least least_apply (colsW a) mw n (rawW th) (fun k => (colsW_apply a n k).trans (ha _)) hmw q
  have hKH : ∀ q : Fin 9, kh (ix2 n q) = ((part (wid (rawH th)) q.val - 3 : ℝ) : EReal) := fun q => by
    rw [hkh]
    exact knots_apply least least_apply (colsH a) mh n (rawH th) (fun k => (colsH_apply a n k).trans (ha _)) hmh q
  have hDW : ∀ k : Fin 8, dw (ix2 n k) = ((wid (rawW th) k : ℝ) : EReal) := fun k => by rw [hdw]; exact diff_knots kw n _ hKW k
  have hDH : ∀ k : Fin 8, dh (ix2 n k) = ((wid (rawH th) k : ℝ) : EReal) := fun k => by rw [hdh]; exact diff_knots kh n _ hKH k
  have hDS : ∀ q : Fin 9, ds (ix2 n q) = ((der (rawD th) q.val : ℝ) : EReal) := fun q => by
    rw [hds]
    exact ders_apply (colsD a) least z n (rawD th) (fun k => (colsD_apply a n k).trans (ha _)) hz least_apply q
  have hV : v (ix1 n) = BitVec.ofNat 32 (rowBin th yc).val := by
    rw [hv]
    exact clip_count (clamp y) kw n _ (wid_pos (rawW th)) hKW yc hy hm.1
  have hV' : next v (ix1 n) = BitVec.ofNat 32 ((rowBin th yc).val + 1) := next_apply v n _ hV
  have hq (x : FVec Ideal S2097152x8 .f32) : take8 x (wrap8 (bcol v)) (ix1 n) = x (ix2 n (rowBin th yc)) := take8_bin x v n _ hV
  have hk (x : FVec Ideal S2097152x9 .f32) : take9 x (wrap9 (bcol v)) (ix1 n) = x (ix2 n (rowBin th yc).castSucc) :=
    take9_bin x v n (rowBin th yc).castSucc hV
  have hk' (x : FVec Ideal S2097152x9 .f32) : take9 x (wrap9 (bcol (next v))) (ix1 n) = x (ix2 n (rowBin th yc).succ) :=
    take9_bin x (next v) n (rowBin th yc).succ (hV'.trans (by rw [Fin.val_succ]))
  have hwp := wid_pos (rawW th) (rowBin th yc)
  have hDL : dl (ix1 n) = ((wid (rawH th) (rowBin th yc) / wid (rawW th) (rowBin th yc) : ℝ) : EReal) := by
    have h1 := hDW (rowBin th yc)
    have h2 := hDH (rowBin th yc)
    rw [hdl, hq]
    pointwise [h1, h2]
    exact div_real _ _ hwp.ne'
  have hD0 : d0 (ix1 n) = ((der (rawD th) (rowBin th yc).val : ℝ) : EReal) := by rw [hd0, hk, hDS]; rfl
  have hD1 : d1 (ix1 n) = ((der (rawD th) ((rowBin th yc).val + 1) : ℝ) : EReal) := by rw [hd1, hk', hDS, Fin.val_succ]
  have hT : t (ix1 n) = ((rowPos th yc : ℝ) : EReal) := by
    rw [ht]
    exact place_apply (clamp y) _ _ n _ _ _ hy ((hk kw).trans (hKW _)) ((hq dw).trans (hDW _)) hwp
  have hP := mul_rest_apply t n _ hT
  have hN := under_apply dl d0 d1 (mulf t (rest t)) n _ _ _ _ hDL hD0 hD1 hP
  rw [← hdn] at hN
  obtain ⟨p1, p2, p3⟩ := row_pos th yc hm.1 hm.2
  constructor
  · rw [value_apply (mid y) _ _ dl t d0 _ dn y n _ _ _ _ _ _ ((hk kh).trans (hKH _)) ((hq dh).trans (hDH _)) hDL hT hD0 hP hN p2, mid_apply]
    rfl
  · rw [logd_apply (mid y) dl d1 t _ d0 _ dn n _ _ _ _ _ hDL hD1 hT hP hD0 (rest_apply t n _ hT) hN p1 p3 p2, mid_apply]
    rfl

end Cert.ReferenceIdeal.Rows
end
-- ==== Proof.RefRun.lean ====
module

public import proofs.«01_k».proof.Proof.RefRow

/-! The reference's run: both results are the spline of every row. -/

@[expose] public section

set_option maxRecDepth 16384

noncomputable section

namespace Cert.ReferenceIdeal.Rows

open Idealize.ShloMosaic Idealize.ShloMosaic.TcCoe Idealize.SL.Sem Idealize.ShloMosaic.StableHlo Cert.Spline Cert.ReferenceIdeal Cert.ReferenceIdeal.Gen Cert.ReferenceIdeal.Value

/-- The spline's values of all rows. -/
def allVal (A0 : FVec Ideal S2097152x25 .f32) (A1 : FVec Ideal S2097152 .f32) : FVec Ideal S2097152 .f32 :=
  fun j => valAt (fun c => (A0 (ix2 (j 0) c)).toReal) (A1 (ix1 (j 0)))

/-- Their logarithms. -/
def allLog (A0 : FVec Ideal S2097152x25 .f32) (A1 : FVec Ideal S2097152 .f32) : FVec Ideal S2097152 .f32 :=
  fun j => logAt (fun c => (A0 (ix2 (j 0) c)).toReal) (A1 (ix1 (j 0)))

variable (V : Valuation τ sig (Elt Ideal))

/-- The parameters and the points. -/
def par : FVec Ideal S2097152x25 .f32 := V (Proc.devRef .tc main_arg0)
def pts : FVec Ideal S2097152 .f32 := V (Proc.devRef .tc main_arg1)

/-- The greatest raw width and raw height of each row. -/
def topW : FVec Ideal S2097152 .f32 :=
  Host.reduce FloatOps.maximumf (colsW (par V)) (constant S_ .f32 0xFF800000#32) reducesTo_S2097152x8_S2097152_d1 h_S_
def topH : FVec Ideal S2097152 .f32 :=
  Host.reduce FloatOps.maximumf (colsH (par V)) (constant S_ .f32 0xFF800000#32) reducesTo_S2097152x8_S2097152_d1 h_S_

/-- The terms of the run, as the row's functions of each other. -/
theorem eq_v20 : res_main_v20 V = expo (colsW (par V)) (topW V) := rfl
theorem eq_v66 : res_main_v66 V = expo (colsH (par V)) (topH V) := rfl
theorem eq_v41 : res_main_v41 V = pins (line (runs (share least (res_main_v20 V) (Host.reduceAdd (res_main_v20 V) (constant S_ .f32 0x00000000#32) reducesTo_S2097152x8_S2097152_d1 h_S_)))) := rfl
theorem eq_v87 : res_main_v87 V = pins (line (runs (share least (res_main_v66 V) (Host.reduceAdd (res_main_v66 V) (constant S_ .f32 0x00000000#32) reducesTo_S2097152x8_S2097152_d1 h_S_)))) := rfl
theorem eq_v44 : res_main_v44 V = diff (res_main_v41 V) := rfl
theorem eq_v90 : res_main_v90 V = diff (res_main_v87 V) := rfl
theorem eq_v57 : res_main_v57 V = soft (ends (colsD (par V)) (rawEnd least)) least (res_main_call2_cst V) := rfl
theorem eq_v98 : res_main_v98 V = clip (count (clamp (pts V)) (res_main_v41 V)) := rfl
theorem eq_v111 : res_main_v111 V = take8 (Host.divf (F := Ideal) (φ := .f32) (res_main_v90 V) (res_main_v44 V)) (wrap8 (bcol (res_main_v98 V))) := rfl
theorem eq_v114 : res_main_v114 V = take9 (res_main_v57 V) (wrap9 (bcol (res_main_v98 V))) := rfl
theorem eq_v119 : res_main_v119 V = take9 (res_main_v57 V) (wrap9 (bcol (next (res_main_v98 V)))) := rfl
theorem eq_v124 : res_main_v124 V = place (clamp (pts V)) (take9 (res_main_v41 V) (wrap9 (bcol (res_main_v98 V)))) (take8 (res_main_v44 V) (wrap8 (bcol (res_main_v98 V)))) := rfl
theorem eq_v138 : res_main_v138 V = under (res_main_v111 V) (res_main_v114 V) (res_main_v119 V) (mulf (F := Ideal) (φ := .f32) (res_main_v124 V) (rest (res_main_v124 V))) := rfl

/-- Both results, before the first one's last reshape. -/
def outVal : FVec Ideal S2097152 .f32 :=
  value (mid (pts V)) (take9 (res_main_v87 V) (wrap9 (bcol (res_main_v98 V)))) (take8 (res_main_v90 V) (wrap8 (bcol (res_main_v98 V)))) (res_main_v111 V) (res_main_v124 V) (res_main_v114 V) (mulf (F := Ideal) (φ := .f32) (res_main_v124 V) (rest (res_main_v124 V))) (res_main_v138 V) (pts V)
def outLog : FVec Ideal S2097152 .f32 :=
  logd (mid (pts V)) (res_main_v111 V) (res_main_v119 V) (res_main_v124 V) (mulf (F := Ideal) (φ := .f32) (res_main_v124 V) (rest (res_main_v124 V))) (res_main_v114 V) (rest (res_main_v124 V)) (res_main_v138 V)

theorem constant_zero_apply : constant (F := Ideal) S_ .f32 0x00000000#32 ix0 = 0 := by
  pointwise

theorem top_real (u : FVec Ideal S2097152x8 .f32) (n : Fin 2097152) (hu : ∀ j, IsReal (u j)) :
    IsReal (Host.reduce (FloatOps.maximumf (F := Ideal) (φ := .f32)) u (constant (F := Ideal) S_ .f32 0xFF800000#32) reducesTo_S2097152x8_S2097152_d1 h_S_ (ix1 n)) :=
  max_real (by decide) u _ (fun _ => bits_neg_inf) _ _ n hu

theorem out_apply (h : ∀ j, IsReal (par V j)) (n : Fin 2097152) :
    outVal V (ix1 n) = valAt (fun k => (par V (ix2 n k)).toReal) (pts V (ix1 n))
    ∧ outLog V (ix1 n) = logAt (fun k => (par V (ix2 n k)).toReal) (pts V (ix1 n)) :=
  row (par V) (pts V) (topW V) (topH V) (res_main_call2_cst V) (res_main_v41 V) (res_main_v87 V) (res_main_v44 V) (res_main_v90 V) (res_main_v57 V)
    (res_main_v98 V) (res_main_v111 V) (res_main_v114 V) (res_main_v119 V) (res_main_v124 V) (res_main_v138 V) n
    (fun k => h _) (top_real (colsW (par V)) n fun j => h _) (top_real (colsH (par V)) n fun j => h _) (constant_zero_apply)
    (by rw [← eq_v20]; exact eq_v41 V) (by rw [← eq_v66]; exact eq_v87 V) (eq_v44 V) (eq_v90 V) (eq_v57 V) (eq_v98 V) (eq_v111 V) (eq_v114 V) (eq_v119 V)
    (eq_v124 V) (eq_v138 V)

theorem outVal_eq (h : ∀ j, IsReal (par V j)) : outVal V = allVal (par V) (pts V) := funext fun j => by
  obtain ⟨n, rfl⟩ : ∃ n : Fin 2097152, j = ix1 n := ⟨j 0, eq_ix1 j⟩
  exact (out_apply V h n).1
theorem outLog_eq (h : ∀ j, IsReal (par V j)) : outLog V = allLog (par V) (pts V) := funext fun j => by
  obtain ⟨n, rfl⟩ : ∃ n : Fin 2097152, j = ix1 n := ⟨j 0, eq_ix1 j⟩
  exact (out_apply V h n).2

/-- The reference ends with the spline's values and logarithms. -/
theorem run (m : (ℓ : Loc nD τ sig) → Buf (Elt Ideal) ℓ) (ρ : Dev nD → PrngReg)
    (h0 : ∀ (c : Dev nD) (j : S2097152x25.Idx), IsReal (m ((c.tc : Thread nD τ).loc main_arg0) j)) :
    θ_run defs (onTc (τ := τ) (main (F := Ideal))) ⟨m, fun _ => 0, ρ⟩ fun r => ∀ c : Dev nD,
      r.2.mem ((c.tc : Thread nD τ).loc main_v163)
          = shapeCast S2097152x1 (allVal (m ((c.tc : Thread nD τ).loc main_arg0)) (m ((c.tc : Thread nD τ).loc main_arg1))) shapeCasts_S2097152_S2097152x1
      ∧ r.2.mem ((c.tc : Thread nD τ).loc main_v160)
          = allLog (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => by
    obtain ⟨h1, h2, h3, h4⟩ := h c
    refine ⟨h1.trans ?_, h2.trans ?_, h3, h4⟩
    · exact congrArg (fun x => shapeCast S2097152x1 x shapeCasts_S2097152_S2097152x1) (outVal_eq (launchContents m c) (h0 c))
    · exact outLog_eq (launchContents m c) (h0 c)) (Value.run m ρ)

end Cert.ReferenceIdeal.Rows
end
-- ==== Proof.Pre.lean ====
module

public import proofs.«01_k».proof.Pre_theta_finite
public import proofs.«01_k».proof.Proof.Consts
public import Idealize.ShloMosaic.Lib.ReduceAll
public import Idealize.ShloMosaic.Lib.Pointwise

/-! The precondition: every parameter is real. -/

@[expose] public section

noncomputable section

namespace Cert.Pre_theta_finite

open Idealize.ShloMosaic Cert.Spline

/-- The predicate's shape relations. -/
instance facts : Facts := ⟨by decide, by decide, by decide⟩

/-- An extended real of absolute value below infinity is real. -/
theorem isReal_of_abs_lt (x : EReal) (h : max x (-x) < ⊤) : IsReal x := by
  induction x with
  | bot => exact absurd h (by simp)
  | coe r => exact isReal_coe r
  | top => exact absurd h (by simp)

theorem isReal_of_fn (a : FVec Ideal S2097152x25 .f32) (y : FVec Ideal S2097152 .f32) (h : fn (F := Ideal) a y = fun _ => 1#1)
    (j : S2097152x25.Idx) : IsReal (a j) := by
  have e := congrFun h (fun k => k.elim0)
  unfold fn at e
  dsimp only at e
  have := Host.reduce_andi_all _ _ _ _ _ e j
  obtain ⟨p, q, rfl⟩ : ∃ (p : Fin 2097152) (q : Fin 25), j = ix2 p q := ⟨j 0, j 1, eq_ix2 j⟩
  pointwise [bits_inf] at this
  refine isReal_of_abs_lt _ (of_decide_eq_true ?_)
  change BitVec.ofBool (decide (max (a (ix2 p q)) (-a (ix2 p q)) < ⊤)) = 1#1 at this
  generalize decide (max (a (ix2 p q)) (-a (ix2 p q)) < ⊤) = b at this ⊢
  revert this
  cases b <;> decide

end Cert.Pre_theta_finite
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import Idealize.ShloMosaic.Lib.Quiescent
public import proofs.«01_k».proof.Proof.KernelRun
public import proofs.«01_k».proof.Proof.RefRun
public import proofs.«01_k».proof.Proof.Pre

@[expose] public section

noncomputable section

namespace Cert.Proof

open Idealize.ShloMosaic Idealize.ShloMosaic.TcCoe Idealize.SL.Sem Cert.Spline

/-- The reference terminates, leaves its arguments, and ends with every counter at zero. -/
theorem frame_reference : Cert.quiescent_ReferenceIdeal := fun m ρ _ =>
  (θ_run Cert.ReferenceIdeal.defs _ _).mono
    (fun r h => ⟨fun c => (h c).2.2, sem_eq_zero_of_no_sems (by decide) r.2⟩) (Cert.ReferenceIdeal.Value.run m ρ)

/-- Where the parameters are finite, the kernel and the reference end with the same results. -/
theorem results : Cert.algebraic_KernelIdeal_ReferenceIdeal_pre_theta_finite := fun m g m' g' hpre hm => by
  have h0 : ∀ (c : Dev Cert.KernelIdeal.nD) j, IsReal (m ((c.tc : Thread Cert.KernelIdeal.nD Cert.KernelIdeal.τ).loc Cert.KernelIdeal.main_arg0) j) :=
    fun c j => Cert.Pre_theta_finite.isReal_of_fn _ _ (hpre c) j
  have h0' : ∀ (c : Dev Cert.ReferenceIdeal.nD) j,
      IsReal (m' ((c.tc : Thread Cert.ReferenceIdeal.nD Cert.ReferenceIdeal.τ).loc Cert.ReferenceIdeal.main_arg0) j) := fun c j => by
    rw [(hm c).1]
    exact h0 c j
  refine ⟨_, _, Cert.KernelIdeal.Arr.run m g h0, (θ_run Cert.ReferenceIdeal.defs _ _).mono (fun r h c => ?_) (Cert.ReferenceIdeal.Rows.run m' g' h0')⟩
  obtain ⟨h1, h2, h3, h4⟩ := h c
  rw [(hm c).1, (hm c).2] at h1 h2
  exact ⟨h1, h2, h3, h4⟩

theorem claim : Cert.Claim :=
  ⟨Cert.Kernel.Gen.facts, Cert.KernelIdeal.Gen.facts, Cert.ReferenceIdeal.Gen.facts, Cert.Pre_theta_finite.facts,
    fun m ρ _ => Cert.Kernel.Gen.frame m ρ,
    fun m ρ _ => Cert.KernelIdeal.Gen.frame m ρ,
    fun m ρ _ => Cert.KernelIdeal.Gen.frame m ρ,
    frame_reference,
    fun m ρ _ => frame_reference m ρ trivial,
    ⟨IdealRules.named_const.statement Cert.KernelIdeal.κ "free6" .f32 0x40BE76C9#32 _ rfl,
      IdealRules.named_const.statement Cert.KernelIdeal.κ "min6" .f32 0x3BC49BA6#32 _ rfl,
      IdealRules.named_const.statement Cert.KernelIdeal.κ "min" .f32 0x3A83126F#32 _ rfl⟩,
    results⟩

end Cert.Proof

end
